-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S16x6144 : Shape := ⟨2, ![16, 6144]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x1x6144 : Shape := ⟨3, ![16, 1, 6144]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S1x1024 : Shape := ⟨2, ![1, 1024]⟩
abbrev S1x16x1024 : Shape := ⟨3, ![1, 16, 1024]⟩
abbrev S1x512x1024 : Shape := ⟨3, ![1, 512, 1024]⟩
abbrev S1x16x512 : Shape := ⟨3, ![1, 16, 512]⟩
abbrev S1x512x512 : Shape := ⟨3, ![1, 512, 512]⟩
abbrev S1x1x1024 : Shape := ⟨3, ![1, 1, 1024]⟩
abbrev S544x1024 : Shape := ⟨2, ![544, 1024]⟩
abbrev S16x512 : Shape := ⟨2, ![16, 512]⟩
abbrev S512x512 : Shape := ⟨2, ![512, 512]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S544x5632 : Shape := ⟨2, ![544, 5632]⟩
abbrev S544x2816 : Shape := ⟨2, ![544, 2816]⟩
abbrev S8x2816 : Shape := ⟨2, ![8, 2816]⟩
abbrev S512x2816 : Shape := ⟨2, ![512, 2816]⟩
abbrev S1x2816 : Shape := ⟨2, ![1, 2816]⟩

abbrev nBuf : Space → Nat
  | .hbm => 22
  | .vmem => 36
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S1024, .f32⟩
  | .hbm, ⟨5, _⟩ => ⟨S16x6144, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S16x1x6144, .f32⟩
  | .hbm, ⟨12, _⟩ => ⟨S1x5632, .f32⟩
  | .hbm, ⟨13, _⟩ => ⟨S_, .f32⟩
  | .hbm, ⟨14, _⟩ => ⟨S4x5632, .f32⟩
  | .hbm, ⟨15, _⟩ => ⟨S8x5632, .f32⟩
  | .hbm, ⟨16, _⟩ => ⟨S1024x5632, .bf16⟩
  | .hbm, ⟨17, _⟩ => ⟨S2816x1024, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S8x4096x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x512, .bf16⟩
  | .local _ .vmem, ⟨7, _⟩ => ⟨S1x16x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x16x512, .bf16⟩
  | .local _ .vmem, ⟨13, _⟩ => ⟨S1x16x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x16x512, .bf16⟩
  | .local _ .vmem, ⟨17, _⟩ => ⟨S1x16x512, .bf16⟩
  | .local _ .vmem, ⟨18, _⟩ => ⟨S1024x1024, .bf16⟩
  | .local _ .vmem, ⟨19, _⟩ => ⟨S1x1x1024, .f32⟩
  | .local _ .vmem, ⟨20, _⟩ => ⟨S1x1x1024, .f32⟩
  | .local _ .vmem, ⟨21, _⟩ => ⟨S1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1024x5632, .bf16⟩
  | .local _ .vmem, ⟨29, _⟩ => ⟨S8x5632, .f32⟩
  | .local _ .vmem, ⟨30, _⟩ => ⟨S2816x1024, .bf16⟩
  | .local _ .vmem, ⟨31, _⟩ => ⟨S1x1024, .f32⟩
  | .local _ .vmem, ⟨32, _⟩ => ⟨S1x512x1024, .f32⟩
  | .local _ .vmem, ⟨33, _⟩ => ⟨S1x512x1024, .f32⟩
  | .local _ .vmem, ⟨34, _⟩ => ⟨S544x1024, .bf16⟩
  | .local _ .vmem, ⟨35, _⟩ => ⟨S544x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S8x5632 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S16x6144 : Shape := ⟨2, ![16, 6144]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x6144 : Shape := ⟨2, ![8, 6144]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 113
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S1024, .f32⟩
  | .hbm, ⟨5, _⟩ => ⟨S16x6144, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S8x6144, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x4096x512, .f32⟩
  | .hbm, ⟨25, _⟩ => ⟨S8x4096x512, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S8x4096x1, .f32⟩
  | .hbm, ⟨42, _⟩ => ⟨S8x4096x1024, .f32⟩
  | .hbm, ⟨43, _⟩ => ⟨S8x4096x1024, .f32⟩
  | .hbm, ⟨44, _⟩ => ⟨S1x1x1024, .f32⟩
  | .hbm, ⟨45, _⟩ => ⟨S8x4096x1024, .f32⟩
  | .hbm, ⟨46, _⟩ => ⟨S8x4096x1024, .f32⟩
  | .hbm, ⟨47, _⟩ => ⟨S_, .f32⟩
  | .hbm, ⟨48, _⟩ => ⟨S8x1x1024, .f32⟩
  | .hbm, ⟨49, _⟩ => ⟨S8x1x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x5632, .f32⟩
  | .hbm, ⟨55, _⟩ => ⟨S_, .i32⟩
  | .hbm, ⟨56, _⟩ => ⟨S_, .f32⟩
  | .hbm, ⟨57, _⟩ => ⟨S8x4098x5632, .f32⟩
  | .hbm, ⟨58, _⟩ => ⟨S8x4096x5632, .f32⟩
  | .hbm, ⟨59, _⟩ => ⟨S1x5632, .f32⟩
  | .hbm, ⟨60, _⟩ => ⟨S5632, .f32⟩
  | .hbm, ⟨61, _⟩ => ⟨S1x1x5632, .f32⟩
  | .hbm, ⟨62, _⟩ => ⟨S8x4096x5632, .f32⟩
  | .hbm, ⟨63, _⟩ => ⟨S8x4096x5632, .f32⟩
  | .hbm, ⟨64, _⟩ => ⟨S8x4096x5632, .f32⟩
  | .hbm, ⟨65, _⟩ => ⟨S1x5632, .f32⟩
  | .hbm, ⟨66, _⟩ => ⟨S5632, .f32⟩
  | .hbm, ⟨67, _⟩ => ⟨S1x1x5632, .f32⟩
  | .hbm, ⟨68, _⟩ => ⟨S8x4096x5632, .f32⟩
  | .hbm, ⟨69, _⟩ => ⟨S8x4096x5632, .f32⟩
  | .hbm, ⟨70, _⟩ => ⟨S8x4096x5632, .f32⟩
  | .hbm, ⟨71, _⟩ => ⟨S8x4096x5632, .f32⟩
  | .hbm, ⟨72, _⟩ => ⟨S1x5632, .f32⟩
  | .hbm, ⟨73, _⟩ => ⟨S5632, .f32⟩
  | .hbm, ⟨74, _⟩ => ⟨S1x1x5632, .f32⟩
  | .hbm, ⟨75, _⟩ => ⟨S8x4096x5632, .f32⟩
  | .hbm, ⟨76, _⟩ => ⟨S8x4096x5632, .f32⟩
  | .hbm, ⟨77, _⟩ => ⟨S8x4096x5632, .f32⟩
  | .hbm, ⟨78, _⟩ => ⟨S1x1x5632, .f32⟩
  | .hbm, ⟨79, _⟩ => ⟨S8x4096x5632, .f32⟩
  | .hbm, ⟨80, _⟩ => ⟨S8x4096x5632, .f32⟩
  | .hbm, ⟨81, _⟩ => ⟨S8x4096x2816, .f32⟩
  | .hbm, ⟨82, _⟩ => ⟨S8x4096x2816, .f32⟩
  | .hbm, ⟨83, _⟩ => ⟨S8x4096x2816, .f32⟩
  | .hbm, ⟨84, _⟩ => ⟨S8x4096x2816, .f32⟩
  | .hbm, ⟨85, _⟩ => ⟨S_, .f32⟩
  | .hbm, ⟨86, _⟩ => ⟨S8x4096x2816, .f32⟩
  | .hbm, ⟨87, _⟩ => ⟨S8x4096x2816, .f32⟩
  | .hbm, ⟨88, _⟩ => ⟨S_, .f32⟩
  | .hbm, ⟨89, _⟩ => ⟨S8x4096x2816, .f32⟩
  | .hbm, ⟨90, _⟩ => ⟨S8x4096x2816, .f32⟩
  | .hbm, ⟨91, _⟩ => ⟨S8x4096x2816, .f32⟩
  | .hbm, ⟨92, _⟩ => ⟨S8x4096x2816, .f32⟩
  | .hbm, ⟨93, _⟩ => ⟨S8x4096x1024, .f32⟩
  | .hbm, ⟨94, _⟩ => ⟨S8x4096x1024, .f32⟩
  | .hbm, ⟨95, _⟩ => ⟨S8x4096x1024, .f32⟩
  | .hbm, ⟨96, _⟩ => ⟨S8x4096x1024, .f32⟩
  | .hbm, ⟨97, _⟩ => ⟨S8x4096x1024, .f32⟩
  | .hbm, ⟨98, _⟩ => ⟨S_, .f32⟩
  | .hbm, ⟨99, _⟩ => ⟨S8x4096, .f32⟩
  | .hbm, ⟨100, _⟩ => ⟨S8x4096x1, .f32⟩
  | .hbm, ⟨101, _⟩ => ⟨S_, .f32⟩
  | .hbm, ⟨102, _⟩ => ⟨S8x4096x1, .f32⟩
  | .hbm, ⟨103, _⟩ => ⟨S8x4096x1, .f32⟩
  | .hbm, ⟨104, _⟩ => ⟨S_, .f32⟩
  | .hbm, ⟨105, _⟩ => ⟨S8x4096x1, .f32⟩
  | .hbm, ⟨106, _⟩ => ⟨S8x4096x1, .f32⟩
  | .hbm, ⟨107, _⟩ => ⟨S8x4096x1, .f32⟩
  | .hbm, ⟨108, _⟩ => ⟨S8x4096x1024, .f32⟩
  | .hbm, ⟨109, _⟩ => ⟨S8x4096x1024, .f32⟩
  | .hbm, ⟨110, _⟩ => ⟨S1x1x1024, .f32⟩
  | .hbm, ⟨111, _⟩ => ⟨S8x4096x1024, .f32⟩
  | .hbm, ⟨112, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_call0_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_3 : Ref sig .tc := ⟨.hbm, 98, rfl⟩
abbrev main_v73 : Ref sig .tc := ⟨.hbm, 99, rfl⟩
abbrev main_v74 : Ref sig .tc := ⟨.hbm, 100, rfl⟩
abbrev main_cst_4 : Ref sig .tc := ⟨.hbm, 101, rfl⟩
abbrev main_v75 : Ref sig .tc := ⟨.hbm, 102, rfl⟩
abbrev main_v76 : Ref sig .tc := ⟨.hbm, 103, rfl⟩
abbrev main_cst_5 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S16x6144 : Shape := ⟨2, ![16, 6144]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x1x6144 : Shape := ⟨3, ![16, 1, 6144]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S1x1024 : Shape := ⟨2, ![1, 1024]⟩
abbrev S1x16x1024 : Shape := ⟨3, ![1, 16, 1024]⟩
abbrev S1x512x1024 : Shape := ⟨3, ![1, 512, 1024]⟩
abbrev S1x16x512 : Shape := ⟨3, ![1, 16, 512]⟩
abbrev S1x512x512 : Shape := ⟨3, ![1, 512, 512]⟩
abbrev S1x1x1024 : Shape := ⟨3, ![1, 1, 1024]⟩
abbrev S544x1024 : Shape := ⟨2, ![544, 1024]⟩
abbrev S16x512 : Shape := ⟨2, ![16, 512]⟩
abbrev S512x512 : Shape := ⟨2, ![512, 512]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S544x5632 : Shape := ⟨2, ![544, 5632]⟩
abbrev S544x2816 : Shape := ⟨2, ![544, 2816]⟩
abbrev S8x2816 : Shape := ⟨2, ![8, 2816]⟩
abbrev S512x2816 : Shape := ⟨2, ![512, 2816]⟩
abbrev S1x2816 : Shape := ⟨2, ![1, 2816]⟩

abbrev nBuf : Space → Nat
  | .hbm => 21
  | .vmem => 36
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S1024, .f32⟩
  | .hbm, ⟨5, _⟩ => ⟨S16x6144, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S16x1x6144, .f32⟩
  | .hbm, ⟨11, _⟩ => ⟨S1x5632, .f32⟩
  | .hbm, ⟨12, _⟩ => ⟨S_, .f32⟩
  | .hbm, ⟨13, _⟩ => ⟨S4x5632, .f32⟩
  | .hbm, ⟨14, _⟩ => ⟨S8x5632, .f32⟩
  | .hbm, ⟨15, _⟩ => ⟨S1024x5632, .bf16⟩
  | .hbm, ⟨16, _⟩ => ⟨S2816x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S8x4096x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x512, .bf16⟩
  | .local _ .vmem, ⟨7, _⟩ => ⟨S1x16x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x16x512, .bf16⟩
  | .local _ .vmem, ⟨13, _⟩ => ⟨S1x16x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x16x512, .bf16⟩
  | .local _ .vmem, ⟨17, _⟩ => ⟨S1x16x512, .bf16⟩
  | .local _ .vmem, ⟨18, _⟩ => ⟨S1024x1024, .bf16⟩
  | .local _ .vmem, ⟨19, _⟩ => ⟨S1x1x1024, .f32⟩
  | .local _ .vmem, ⟨20, _⟩ => ⟨S1x1x1024, .f32⟩
  | .local _ .vmem, ⟨21, _⟩ => ⟨S1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1024x5632, .bf16⟩
  | .local _ .vmem, ⟨29, _⟩ => ⟨S8x5632, .f32⟩
  | .local _ .vmem, ⟨30, _⟩ => ⟨S2816x1024, .bf16⟩
  | .local _ .vmem, ⟨31, _⟩ => ⟨S1x1024, .f32⟩
  | .local _ .vmem, ⟨32, _⟩ => ⟨S1x512x1024, .f32⟩
  | .local _ .vmem, ⟨33, _⟩ => ⟨S1x512x1024, .f32⟩
  | .local _ .vmem, ⟨34, _⟩ => ⟨S544x1024, .bf16⟩
  | .local _ .vmem, ⟨35, _⟩ => ⟨S544x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S8x5632 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference2Ideal.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S16x6144 : Shape := ⟨2, ![16, 6144]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x6144 : Shape := ⟨2, ![8, 6144]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 96
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S1024, .f32⟩
  | .hbm, ⟨5, _⟩ => ⟨S16x6144, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S8x6144, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x4096x512, .f32⟩
  | .hbm, ⟨24, _⟩ => ⟨S8x4096x512, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S8x4096x1, .f32⟩
  | .hbm, ⟨41, _⟩ => ⟨S8x4096x1024, .f32⟩
  | .hbm, ⟨42, _⟩ => ⟨S8x4096x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S_, .f32⟩
  | .hbm, ⟨47, _⟩ => ⟨S8x1x1024, .f32⟩
  | .hbm, ⟨48, _⟩ => ⟨S8x1x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x5632, .f32⟩
  | .hbm, ⟨54, _⟩ => ⟨S_, .i32⟩
  | .hbm, ⟨55, _⟩ => ⟨S_, .f32⟩
  | .hbm, ⟨56, _⟩ => ⟨S8x4098x5632, .f32⟩
  | .hbm, ⟨57, _⟩ => ⟨S8x4096x5632, .f32⟩
  | .hbm, ⟨58, _⟩ => ⟨S1x5632, .f32⟩
  | .hbm, ⟨59, _⟩ => ⟨S5632, .f32⟩
  | .hbm, ⟨60, _⟩ => ⟨S1x1x5632, .f32⟩
  | .hbm, ⟨61, _⟩ => ⟨S8x4096x5632, .f32⟩
  | .hbm, ⟨62, _⟩ => ⟨S8x4096x5632, .f32⟩
  | .hbm, ⟨63, _⟩ => ⟨S8x4096x5632, .f32⟩
  | .hbm, ⟨64, _⟩ => ⟨S1x5632, .f32⟩
  | .hbm, ⟨65, _⟩ => ⟨S5632, .f32⟩
  | .hbm, ⟨66, _⟩ => ⟨S1x1x5632, .f32⟩
  | .hbm, ⟨67, _⟩ => ⟨S8x4096x5632, .f32⟩
  | .hbm, ⟨68, _⟩ => ⟨S8x4096x5632, .f32⟩
  | .hbm, ⟨69, _⟩ => ⟨S8x4096x5632, .f32⟩
  | .hbm, ⟨70, _⟩ => ⟨S8x4096x5632, .f32⟩
  | .hbm, ⟨71, _⟩ => ⟨S1x5632, .f32⟩
  | .hbm, ⟨72, _⟩ => ⟨S5632, .f32⟩
  | .hbm, ⟨73, _⟩ => ⟨S1x1x5632, .f32⟩
  | .hbm, ⟨74, _⟩ => ⟨S8x4096x5632, .f32⟩
  | .hbm, ⟨75, _⟩ => ⟨S8x4096x5632, .f32⟩
  | .hbm, ⟨76, _⟩ => ⟨S8x4096x5632, .f32⟩
  | .hbm, ⟨77, _⟩ => ⟨S1x1x5632, .f32⟩
  | .hbm, ⟨78, _⟩ => ⟨S8x4096x5632, .f32⟩
  | .hbm, ⟨79, _⟩ => ⟨S8x4096x5632, .f32⟩
  | .hbm, ⟨80, _⟩ => ⟨S8x4096x2816, .f32⟩
  | .hbm, ⟨81, _⟩ => ⟨S8x4096x2816, .f32⟩
  | .hbm, ⟨82, _⟩ => ⟨S8x4096x2816, .f32⟩
  | .hbm, ⟨83, _⟩ => ⟨S8x4096x2816, .f32⟩
  | .hbm, ⟨84, _⟩ => ⟨S_, .f32⟩
  | .hbm, ⟨85, _⟩ => ⟨S8x4096x2816, .f32⟩
  | .hbm, ⟨86, _⟩ => ⟨S8x4096x2816, .f32⟩
  | .hbm, ⟨87, _⟩ => ⟨S_, .f32⟩
  | .hbm, ⟨88, _⟩ => ⟨S8x4096x2816, .f32⟩
  | .hbm, ⟨89, _⟩ => ⟨S8x4096x2816, .f32⟩
  | .hbm, ⟨90, _⟩ => ⟨S8x4096x2816, .f32⟩
  | .hbm, ⟨91, _⟩ => ⟨S8x4096x2816, .f32⟩
  | .hbm, ⟨92, _⟩ => ⟨S8x4096x1024, .f32⟩
  | .hbm, ⟨93, _⟩ => ⟨S8x4096x1024, .f32⟩
  | .hbm, ⟨94, _⟩ => ⟨S8x4096x1024, .f32⟩
  | .hbm, ⟨95, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_call0_v0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Proof.Math.lean ====
module

public import Idealize.ShloMosaic.Lib.Pipeline.ValueKit
@[expose] public section

set_option maxRecDepth 16384

/-
  The mathematics of the end of a layer (output projection of the two attention halves, gated residual, modulated
  RMSNorm, convolutional gated FFN, second gated residual), over the extended reals, at one element: row `r` of batch
  entry `b`, channel `c`. Both references are these functions, and both kernels are shown to compute them. The halo
  lemmas at the end are the kernels' tiling: a tile of 512 rows staged with 16 rows of each neighbour.
-/
noncomputable section
namespace Cert.LayerEnd
open Idealize.ShloMosaic

/-- An array of one axis. -/
abbrev A1 (a : ℕ) := (⟨1, ![a]⟩ : Shape).Idx → EReal
/-- An array of two axes. -/
abbrev A2 (a b : ℕ) := (⟨2, ![a, b]⟩ : Shape).Idx → EReal
/-- An array of three axes. -/
abbrev A3 (a b c : ℕ) := (⟨3, ![a, b, c]⟩ : Shape).Idx → EReal

/-- The arguments: the residual stream, the two halves of the attention output, the output projection, the gain of the
    norm, the modulation rows, the up projection, the taps and bias of the convolution, the down projection. -/
structure In where
  X : A3 8 4096 1024
  OA : A3 8 4096 512
  OB : A3 8 4096 512
  W : A2 1024 1024
  G : A1 1024
  M : A2 16 6144
  WU : A2 1024 5632
  CK : A2 3 5632
  CB : A1 5632
  WD : A2 2816 1024

variable (p : In)

/-- Channel `c` of the chunk of batch entry `b`'s modulation row that starts at column `o`. -/
def md (b : Fin 8) (o : ℕ) (ho : o + 1024 ≤ 6144) (c : Fin 1024) : EReal :=
  p.M (ix2 ⟨b.val, by omega⟩ ⟨o + c.val, by omega⟩)

/-- The output projection of row `r`: the first half of the columns against the first 512 rows of `W`, the second
    against the rest. -/
def proj (b : Fin 8) (r : Fin 4096) (c : Fin 1024) : EReal :=
  ∑ x : Fin 512, p.OA (ix3 b r x) * p.W (ix2 ⟨x.val, by omega⟩ c)
    + ∑ x : Fin 512, p.OB (ix3 b r x) * p.W (ix2 ⟨512 + x.val, by omega⟩ c)

/-- The residual stream after the gated output projection. -/
def mix (b : Fin 8) (r : Fin 4096) (c : Fin 1024) : EReal :=
  p.X (ix3 b r c) + md p b 2048 (by omega) c * proj p b r c

/-- A row divided by its root mean square. -/
def rms (f : Fin 1024 → EReal) (c : Fin 1024) : EReal :=
  f c * Ideal.rsqrt (Ideal.div (∑ x, f x * f x) (Ideal.ofBits FTy.f32 1149239296#32) + Ideal.ofBits FTy.f32 897988541#32)

/-- The normalised row with gain, scale and shift: what the FFN reads. -/
def modn (b : Fin 8) (r : Fin 4096) (c : Fin 1024) : EReal :=
  rms (mix p b r) c * p.G (ix1 c) * (1 + md p b 4096 (by omega) c) + md p b 3072 (by omega) c

/-- The up projection. -/
def up (b : Fin 8) (r : Fin 4096) (k : Fin 5632) : EReal := ∑ c, modn p b r c * p.WU (ix2 c k)

/-- The up projection with a row of zeros before the first row and after the last: row `r` here is row `r - 1` there. -/
def upz (b : Fin 8) (r : ℕ) (k : Fin 5632) : EReal :=
  if h : 1 ≤ r ∧ r - 1 < 4096 then up p b ⟨r - 1, h.2⟩ k else 0

theorem upz_pos (b : Fin 8) (r : ℕ) (k : Fin 5632) (h : 1 ≤ r ∧ r - 1 < 4096) : upz p b r k = ∑ c, modn p b ⟨r - 1, h.2⟩ c * p.WU (ix2 c k) := by
  rw [upz, dif_pos h]; rfl
theorem upz_neg (b : Fin 8) (r : ℕ) (k : Fin 5632) (h : ¬ (1 ≤ r ∧ r - 1 < 4096)) : upz p b r k = 0 := by rw [upz, dif_neg h]

/-- The convolution of three taps along the rows, channel by channel. -/
def conv (b : Fin 8) (r : ℕ) (k : Fin 5632) : EReal :=
  upz p b r k * p.CK (ix2 0 k) + upz p b (1 + r) k * p.CK (ix2 1 k) + upz p b (2 + r) k * p.CK (ix2 2 k) + p.CB (ix1 k)

/-- The gated activation `silu(g) * v` of the convolution's two halves. -/
def act (b : Fin 8) (r : ℕ) (k : Fin 2816) : EReal :=
  conv p b r ⟨k.val, by omega⟩ * Ideal.div 1 (1 + Ideal.exp (-conv p b r ⟨k.val, by omega⟩))
    * conv p b r ⟨2816 + k.val, by omega⟩

/-- The layer's end: the residual stream after the gated FFN. -/
def out (b : Fin 8) (r : Fin 4096) (c : Fin 1024) : EReal :=
  mix p b r c + md p b 5120 (by omega) c * ∑ k, act p b r.val k * p.WD (ix2 k c)

/-- The layer's end, normalised once more with the model's last gain. -/
def fin (FG : A1 1024) (b : Fin 8) (r : Fin 4096) (c : Fin 1024) : EReal := rms (out p b r) c * FG (ix1 c)

/-! ## The tiling -/

/-- The two halves side by side. -/
def cat (b : Fin 8) (r : Fin 4096) (k : Fin 1024) : EReal :=
  if h : k.val < 512 then p.OA (ix3 b r ⟨k.val, h⟩) else p.OB (ix3 b r ⟨k.val - 512, by omega⟩)

theorem cat_lo (b : Fin 8) (r : Fin 4096) (k : Fin 1024) (c : Fin 512) (h : k.val = c.val) : cat p b r k = p.OA (ix3 b r c) := by
  have hc := c.2
  rw [cat, dif_pos (by omega)]; congr 2; exact Fin.ext h
theorem cat_hi (b : Fin 8) (r : Fin 4096) (k : Fin 1024) (c : Fin 512) (h : k.val = 512 + c.val) : cat p b r k = p.OB (ix3 b r c) := by
  rw [cat, dif_neg (by omega)]; congr 2; exact Fin.ext (by show k.val - 512 = c.val; omega)

/-- The output projection as one sum over the columns of both halves. -/
theorem cat_sum (b : Fin 8) (r : Fin 4096) (c : Fin 1024) : ∑ k, cat p b r k * p.W (ix2 k c) = proj p b r c := by
  rw [proj, show (∑ k, cat p b r k * p.W (ix2 k c)) = ∑ k : Fin (512 + 512), cat p b r k * p.W (ix2 k c) from rfl, Fin.sum_univ_add]
  congr 1

/-- The row of the array that row `q` of tile `i`'s staged 544 rows holds: 16 rows of the tile before (of the first
    tile itself where there is none), the tile's 512, 16 of the tile after (the array's last 16 where there is none). -/
def row (i : Fin 8) (q : Fin 544) : Fin 4096 :=
  if q.val < 16 then ⟨(i.val * 32 - 1) * 16 + q.val % 16, by omega⟩
  else if q.val < 528 then ⟨i.val * 512 + (q.val - 16) % 512, by omega⟩
  else ⟨min ((i.val + 1) * 32) 255 * 16 + (q.val - 528) % 16, by omega⟩

theorem row_lo (i : Fin 8) (q : Fin 544) (h : q.val < 16) : (row i q).val = (i.val * 32 - 1) * 16 + q.val := by
  rw [row, if_pos h]; show (i.val * 32 - 1) * 16 + q.val % 16 = _; omega
theorem row_mid (i : Fin 8) (q : Fin 544) (h : ¬ q.val < 16) (h' : q.val < 528) : (row i q).val + 16 = i.val * 512 + q.val := by
  rw [row, if_neg h, if_pos h']; show i.val * 512 + (q.val - 16) % 512 + 16 = _; omega
theorem row_hi (i : Fin 8) (q : Fin 544) (h : ¬ q.val < 528) : (row i q).val + 528 = min ((i.val + 1) * 32) 255 * 16 + q.val := by
  rw [row, if_neg (by omega), if_neg h]; show min ((i.val + 1) * 32) 255 * 16 + (q.val - 528) % 16 + 528 = _; omega

/-- The factor on staged row `q`: 0 where the row stands before the array's first or after its last, 1 elsewhere. -/
def keep (i : Fin 8) (q : Fin 544) : EReal :=
  if q.val < 16 then (if 0 < i.val then 1 else 0) else if q.val < 528 then 1 else (if i.val < 7 then 1 else 0)

theorem keep_lo (i : Fin 8) (q : Fin 544) (h : q.val < 16) : keep i q = if 0 < i.val then 1 else 0 := by rw [keep, if_pos h]
theorem keep_mid (i : Fin 8) (q : Fin 544) (h : ¬ q.val < 16) (h' : q.val < 528) : keep i q = 1 := by rw [keep, if_neg h, if_pos h']
theorem keep_hi (i : Fin 8) (q : Fin 544) (h : ¬ q.val < 528) : keep i q = if i.val < 7 then 1 else 0 := by
  rw [keep, if_neg (by omega), if_neg h]

/-- The up projection of staged row `q`. -/
theorem up_keep (b i : Fin 8) (q : Fin 544) (k : Fin 5632) :
    ∑ c, modn p b (row i q) c * keep i q * p.WU (ix2 c k) = keep i q * up p b (row i q) k := by
  have h : keep i q = 1 ∨ keep i q = 0 := by unfold keep; split_ifs <;> simp
  rcases h with h | h
  · simp only [h, mul_one, one_mul, up]
  · simp [h]

/-- The staged row that lies `d` rows from row `r` of the tile, one before it (`d = 0`) to one after (`d = 2`), holds
    the padded up projection's row there. -/
theorem keep_up (b i : Fin 8) (r d : ℕ) (hr : r < 512) (hd : d < 3) (k : Fin 5632) (q : Fin 544) (hq : q.val = 15 + r + d) :
    keep i q * up p b (row i q) k = upz p b (d + (i.val * 512 + r)) k := by
  have key : ∀ (h : 1 ≤ d + (i.val * 512 + r) ∧ d + (i.val * 512 + r) - 1 < 4096), keep i q = 1 → (row i q).val = d + (i.val * 512 + r) - 1 →
      keep i q * up p b (row i q) k = upz p b (d + (i.val * 512 + r)) k := by
    intro h hk hrow
    rw [hk, one_mul, upz, dif_pos h]
    congr 1
    exact Fin.ext hrow
  have zero : ¬ (1 ≤ d + (i.val * 512 + r) ∧ d + (i.val * 512 + r) - 1 < 4096) → keep i q = 0 →
      keep i q * up p b (row i q) k = upz p b (d + (i.val * 512 + r)) k := by
    intro h hk
    rw [hk, zero_mul, upz, dif_neg h]
  have hi := i.2
  by_cases h1 : q.val < 16
  · have hrow := row_lo i q h1
    by_cases h2 : 0 < i.val
    · exact key (by omega) (by rw [keep, if_pos h1, if_pos h2]) (by omega)
    · exact zero (by omega) (by rw [keep, if_pos h1, if_neg h2])
  · by_cases h3 : q.val < 528
    · have hrow := row_mid i q h1 h3
      exact key (by omega) (by rw [keep, if_neg h1, if_pos h3]) (by omega)
    · have hrow := row_hi i q h3
      by_cases h2 : i.val < 7
      · exact key (by omega) (by rw [keep, if_neg h1, if_neg h3, if_pos h2]) (by omega)
      · exact zero (by omega) (by rw [keep, if_neg h1, if_neg h3, if_neg h2])

/-- An element of a two-axis array lies in the box at `(o0, o1)` of sizes `(s0, s1)`. -/
theorem mem2 {m n o0 o1 s0 s1 : ℕ} (inb : ∀ a, (![o0, o1] : Fin 2 → ℕ) a + (![s0, s1] : Fin 2 → ℕ) a ≤ (![m, n] : Fin 2 → ℕ) a) (y : (⟨2, ![m, n]⟩ : Shape).Idx) (h0 : o0 ≤ (y 0).val ∧ (y 0).val < o0 + s0)
    (h1 : o1 ≤ (y 1).val ∧ (y 1).val < o1 + s1) : y ∈ (Rect.unit (s := ⟨2, ![m, n]⟩) ![o0, o1] ![s0, s1] inb).set :=
  Rect.mem_set_unit.2 (Fin.forall_fin_two.2 ⟨h0, h1⟩)

end Cert.LayerEnd
end
-- ==== Proof.KBody.lean ====
module

public import proofs.«01_k».proof.Proof.Gen.KernelIdeal.Value
public import proofs.«01_k».proof.Proof.Math
public import Idealize.ShloMosaic.Lib.Pipeline.ValueKit
public import Idealize.ShloMosaic.Lib.Pipeline.ReadBack
@[expose] public section

set_option maxRecDepth 16384

/-
  The kernel body at one grid point, as a function of the blocks it reads: tile `i` (512 rows) of batch entry `b`. The
  hypotheses on the blocks say which elements of the arguments they hold; `KWindows` proves them.
-/
noncomputable section
open Idealize.ShloMosaic Idealize.ShloMosaic.TcCoe Idealize.SL.Sem
open Idealize.ShloMosaic.StableHlo
namespace Cert.KernelIdeal.Hand
open Cert.KernelIdeal Cert.KernelIdeal.Gen Cert.LayerEnd

/-! ## Single payloads, read at one element -/

theorem pay2_at (v : Vec Ideal S1x16x512 .bf16) (x : S16x512.Idx) : k0_pay2 v x = v (ix3 0 (x 0) (x 1)) := by pointwise [k0_pay2]
theorem pay3_at (v : Vec Ideal S1x16x512 .bf16) (x : S16x512.Idx) : k0_pay3 v x = v (ix3 0 (x 0) (x 1)) := by pointwise [k0_pay3]
theorem pay4_at (v : Vec Ideal S1x512x512 .bf16) (x : S512x512.Idx) : k0_pay4 v x = v (ix3 0 (x 0) (x 1)) := by pointwise [k0_pay4]
theorem pay5_at (v : Vec Ideal S1x512x512 .bf16) (x : S512x512.Idx) : k0_pay5 v x = v (ix3 0 (x 0) (x 1)) := by pointwise [k0_pay5]
theorem pay6_at (v : Vec Ideal S1x16x512 .bf16) (x : S16x512.Idx) : k0_pay6 v x = v (ix3 0 (x 0) (x 1)) := by pointwise [k0_pay6]
theorem pay7_at (v : Vec Ideal S1x16x512 .bf16) (x : S16x512.Idx) : k0_pay7 v x = v (ix3 0 (x 0) (x 1)) := by pointwise [k0_pay7]
theorem pay8_at (v30 : Vec Ideal S1x1x1024 .f32) (v32 : Vec Ideal S544x1024 .bf16) (v33 : Vec Ideal S1024x1024 .bf16) (j : S544x1024.Idx) :
    k0_pay8 v30 v32 v33 j = v30 (ix3 0 0 (j 1)) * ∑ k, v32 (ix2 (j 0) k) * v33 (ix2 k (j 1)) := by pointwise [k0_pay8]
theorem pay9_at (v30 : Vec Ideal S1x1x1024 .f32) (v32 : Vec Ideal S544x1024 .bf16) (v33 : Vec Ideal S1024x1024 .bf16) (v38 : Vec Ideal S1x512x1024 .f32)
    (j : S512x1024.Idx) : k0_pay9 v30 v32 v33 v38 j = v38 (ix3 0 (j 0) (j 1)) + k0_pay8 v30 v32 v33 (ix2 ⟨16 + (j 0).val, by have := (j 0).2; simp at this; omega⟩ (j 1)) := by
  pointwise [k0_pay9, k0_pay8]

/-- The normalised, scaled and shifted row `f`, at channel `c`, with the gain, scale and shift rows as the kernel holds them. -/
def modk (f : Fin 1024 → EReal) (v43 v45 v47 : FVec Ideal S1x1024 .f32) (c : Fin 1024) : EReal :=
  rms f c * v43 (ix2 0 c) * (1 + v47 (ix2 0 c)) + v45 (ix2 0 c)

theorem pay16_at (v37 : FVec Ideal S544x1024 .f32) (v43 v45 v47 : FVec Ideal S1x1024 .f32) (v49 : Ideal .f32) (v53 : FVec Ideal S16x1024 .f32) (j : S16x1024.Idx) :
    k0_pay16 v37 v43 v45 v47 v49 v53 j = modk (fun c => v53 (ix2 (j 0) c) + v37 (ix2 ⟨(j 0).val, by have := (j 0).2; simp at this; omega⟩ c)) v43 v45 v47 (j 1) * v49 := by
  unfold modk rms; pointwise [k0_pay16]
theorem pay17_at (v41 : FVec Ideal S512x1024 .f32) (v43 v45 v47 : FVec Ideal S1x1024 .f32) (j : S512x1024.Idx) :
    k0_pay18 (k0_pay17 v41 v43 v45 v47) j = modk (fun c => v41 (ix2 (j 0) c)) v43 v45 v47 (j 1) := by
  unfold modk rms; pointwise [k0_pay18, k0_pay17]
theorem pay19_at (v37 : FVec Ideal S544x1024 .f32) (v43 v45 v47 : FVec Ideal S1x1024 .f32) (v51 : Ideal .f32) (v102 : Vec Ideal S1x16x1024 .f32) (j : S16x1024.Idx) :
    k0_pay19 v37 v43 v45 v47 v51 v102 j = modk (fun c => v102 (ix3 0 (j 0) c) + v37 (ix2 ⟨528 + (j 0).val, by have := (j 0).2; simp at this; omega⟩ c)) v43 v45 v47 (j 1) * v51 := by
  unfold modk rms; pointwise [k0_pay19]
theorem pay15_at (v : Vec Ideal S1x16x1024 .f32) (x : S16x1024.Idx) : k0_pay15 v x = v (ix3 0 (x 0) (x 1)) := by pointwise [k0_pay15]
theorem pay10_at (v : Vec Ideal S1x1024 .f32) (k : Fin 1024) : k0_pay10 v (ix2 0 k) = v (ix2 0 k) := by pointwise [k0_pay10]
theorem pay11_at (v : Vec Ideal S1x1x1024 .f32) (k : Fin 1024) : k0_pay11 v (ix2 0 k) = v (ix3 0 0 k) := by pointwise [k0_pay11]
theorem pay12_at (v : Vec Ideal S1x1x1024 .f32) (k : Fin 1024) : k0_pay12 v (ix2 0 k) = v (ix3 0 0 k) := by pointwise [k0_pay12]
theorem pay13_at (i : Fin 8) : (k0_pay13 (BitVec.ofNat 32 i.val) : Ideal .f32) = if 0 < i.val then 1 else 0 := by
  pointwise [k0_pay13]; fin_cases i <;> simp [Scalar.select, Scalar.cmpi] <;> first | exact if_pos (by decide) | exact if_neg (by decide)
theorem pay14_at (i : Fin 8) : (k0_pay14 (BitVec.ofNat 32 i.val) : Ideal .f32) = if i.val < 7 then 1 else 0 := by
  pointwise [k0_pay14]; fin_cases i <;> simp [Scalar.select, Scalar.cmpi] <;> first | exact if_pos (by decide) | exact if_neg (by decide)

/-- The up projection of staged row `q`. -/
def hu (v130 : Vec Ideal S544x1024 .bf16) (v131 : Vec Ideal S1024x5632 .bf16) (q : Fin 544) (k : Fin 5632) : EReal :=
  ∑ x : Fin 1024, v130 (ix2 q x) * v131 (ix2 x k)
theorem pay21_at (v130 : Vec Ideal S544x1024 .bf16) (v131 : Vec Ideal S1024x5632 .bf16) (j : S544x2816.Idx) :
    k0_pay21 v130 v131 j = hu v130 v131 (j 0) ⟨(j 1).val, by have := (j 1).2; simp at this; omega⟩ := by
  unfold hu; pointwise [k0_pay21, k0_pay20]
theorem pay22_at (v130 : Vec Ideal S544x1024 .bf16) (v131 : Vec Ideal S1024x5632 .bf16) (j : S544x2816.Idx) :
    k0_pay22 v130 v131 j = hu v130 v131 (j 0) ⟨2816 + (j 1).val, by have := (j 1).2; simp at this; omega⟩ := by
  unfold hu; pointwise [k0_pay22, k0_pay20]
theorem pay24_at (v130 : Vec Ideal S544x1024 .bf16) (v131 : Vec Ideal S1024x5632 .bf16) (j : S512x2816.Idx) :
    k0_pay24 v130 v131 j = hu v130 v131 ⟨(16 + (j 0).val + 544 - 1) % 544, Nat.mod_lt _ (by omega)⟩ ⟨(j 1).val, by have := (j 1).2; simp at this; omega⟩ := by
  unfold hu; pointwise [k0_pay24, k0_pay21, k0_pay20]
theorem pay25_at (v130 : Vec Ideal S544x1024 .bf16) (v131 : Vec Ideal S1024x5632 .bf16) (j : S544x2816.Idx) :
    k0_pay25 v130 v131 j = hu v130 v131 ⟨((j 0).val + 544 - 543) % 544, Nat.mod_lt _ (by omega)⟩ ⟨(j 1).val, by have := (j 1).2; simp at this; omega⟩ := by
  unfold hu; pointwise [k0_pay25, k0_pay21, k0_pay20]
theorem pay23_at (v : Vec Ideal S8x2816 .f32) (x : S8x2816.Idx) : k0_pay23 v x = v x := by pointwise [k0_pay23]

/-! ## The two staged arrays -/

variable (p : In) (b i : Fin 8)

/-- The halves' columns and the rows staged side by side: `544 x 1024`. -/
theorem om_at (x3 x6 x5 x8 : Vec Ideal S1x16x512 .bf16) (x4 x7 : Vec Ideal S1x512x512 .bf16)
    (h3 : ∀ (r : Fin 16) (c : Fin 512) (q : Fin 544), q.val = r.val → x3 (ix3 0 r c) = p.OA (ix3 b (row i q) c))
    (h4 : ∀ (r : Fin 512) (c : Fin 512) (q : Fin 544), q.val = 16 + r.val → x4 (ix3 0 r c) = p.OA (ix3 b (row i q) c))
    (h5 : ∀ (r : Fin 16) (c : Fin 512) (q : Fin 544), q.val = 528 + r.val → x5 (ix3 0 r c) = p.OA (ix3 b (row i q) c))
    (h6 : ∀ (r : Fin 16) (c : Fin 512) (q : Fin 544), q.val = r.val → x6 (ix3 0 r c) = p.OB (ix3 b (row i q) c))
    (h7 : ∀ (r : Fin 512) (c : Fin 512) (q : Fin 544), q.val = 16 + r.val → x7 (ix3 0 r c) = p.OB (ix3 b (row i q) c))
    (h8 : ∀ (r : Fin 16) (c : Fin 512) (q : Fin 544), q.val = 528 + r.val → x8 (ix3 0 r c) = p.OB (ix3 b (row i q) c)) :
    View.readCov (Val := Elt Ideal) (View.whole cc0_scratch1) [⟨Rect.unit ![528,512] ![16,512] inb_S544x1024_S16x512_528_512, k0_pay7 x8⟩,
      ⟨Rect.unit ![528,0] ![16,512] inb_S544x1024_S16x512_528_0, k0_pay6 x5⟩, ⟨Rect.unit ![16,512] ![512,512] inb_S544x1024_S512x512_16_512, k0_pay5 x7⟩,
      ⟨Rect.unit ![16,0] ![512,512] inb_S544x1024_S512x512_16_0, k0_pay4 x4⟩, ⟨Rect.unit ![0,512] ![16,512] inb_S544x1024_S16x512_0_512, k0_pay3 x6⟩,
      ⟨Rect.unit ![0,0] ![16,512] inb_S544x1024_S16x512_0_0, k0_pay2 x3⟩] (Rect.unit ![0,0] ![544,1024] inb_S544x1024_S544x1024_0_0).toLoadRect
    = (fun y => cat p b (row i (y 0)) (y 1) : Vec Ideal S544x1024 .bf16) := by
  rw [View.readCov_eq_canon']
  funext y
  have hy : (Rect.unit ![0,0] ![544,1024] inb_S544x1024_S544x1024_0_0).toLoadRect.idx y = y :=
    funext fun a => Fin.ext ((Rect.idx_unit_val _ _ _ _ a).trans (by fin_cases a <;> simp))
  rw [hy]
  revert y
  show ∀ y : S544x1024.Idx, _
  intro y hy
  have y0 : (y 0).val < 544 := (y 0).2
  have y1 : (y 1).val < 1024 := (y 1).2
  canon_tiles x h using (by
    by_cases c : (y 1).val < 512 <;> by_cases r : (y 0).val < 16
    · exact ⟨_, .tail _ (.tail _ (.tail _ (.tail _ (.tail _ (.head _))))), mem2 inb_S544x1024_S16x512_0_0 y (by omega) (by omega)⟩
    · by_cases r' : (y 0).val < 528
      · exact ⟨_, .tail _ (.tail _ (.tail _ (.head _))), mem2 inb_S544x1024_S512x512_16_0 y (by omega) (by omega)⟩
      · exact ⟨_, .tail _ (.head _), mem2 inb_S544x1024_S16x512_528_0 y (by omega) (by omega)⟩
    · exact ⟨_, .tail _ (.tail _ (.tail _ (.tail _ (.head _)))), mem2 inb_S544x1024_S16x512_0_512 y (by omega) (by omega)⟩
    · by_cases r' : (y 0).val < 528
      · exact ⟨_, .tail _ (.tail _ (.head _)), mem2 inb_S544x1024_S512x512_16_512 y (by omega) (by omega)⟩
      · exact ⟨_, .head _, mem2 inb_S544x1024_S16x512_528_512 y (by omega) (by omega)⟩)
  · exact (pay7_at _ _).trans ((h8 (x 0) (x 1) (y 0) h0).trans (cat_hi p b _ (y 1) (x 1) h1).symm)
  · exact (pay6_at _ _).trans ((h5 (x 0) (x 1) (y 0) h0).trans (cat_lo p b _ (y 1) (x 1) h1).symm)
  · exact (pay5_at _ _).trans ((h7 (x 0) (x 1) (y 0) h0).trans (cat_hi p b _ (y 1) (x 1) h1).symm)
  · exact (pay4_at _ _).trans ((h4 (x 0) (x 1) (y 0) h0).trans (cat_lo p b _ (y 1) (x 1) h1).symm)
  · exact (pay3_at _ _).trans ((h6 (x 0) (x 1) (y 0) h0).trans (cat_hi p b _ (y 1) (x 1) h1).symm)
  · exact (pay2_at _ _).trans ((h3 (x 0) (x 1) (y 0) h0).trans (cat_lo p b _ (y 1) (x 1) h1).symm)

/-- The staged columns, as an array. -/
def omv : Vec Ideal S544x1024 .bf16 := fun y => cat p b (row i (y 0)) (y 1)
/-- The staged normalised rows, as an array. -/
def hv : Vec Ideal S544x1024 .bf16 := fun y => modn p b (row i (y 0)) (y 1) * keep i (y 0)

/-- The output projection of staged row `q`, gated. -/
theorem pay8_eq (x10 : Vec Ideal S1x1x1024 .f32) (x9 : Vec Ideal S1024x1024 .bf16)
    (h9 : ∀ k c : Fin 1024, x9 (ix2 k c) = p.W (ix2 k c)) (h10 : ∀ c : Fin 1024, x10 (ix3 0 0 c) = md p b 2048 (by omega) c)
    (q : Fin 544) (c : Fin 1024) : k0_pay8 x10 (omv p b i) x9 (ix2 q c) = md p b 2048 (by omega) c * proj p b (row i q) c := by
  refine (pay8_at _ _ _ _).trans (congrArg₂ (· * ·) (h10 c) (Eq.trans ?_ (cat_sum p b (row i q) c)))
  exact Finset.sum_congr rfl fun k _ => congrArg (cat p b (row i q) k * ·) (h9 k c)

/-- The kernel's modulated norm of the mixed row is the mathematics'. -/
theorem modk_eq (f : Fin 1024 → EReal) (r : Fin 4096) (v43 v45 v47 : FVec Ideal S1x1024 .f32) (c : Fin 1024) (hf : f = mix p b r)
    (h43 : v43 (ix2 0 c) = p.G (ix1 c)) (h45 : v45 (ix2 0 c) = md p b 3072 (by omega) c) (h47 : v47 (ix2 0 c) = md p b 4096 (by omega) c) :
    modk f v43 v45 v47 c = modn p b r c := by
  rw [modk, modn, hf, h43, h45, h47]

/-- The normalised rows staged: `544 x 1024`, zero where a row stands outside the array. -/
theorem h_at (n : ℕ) (hn : n = i.val) (OM : Vec Ideal S544x1024 .bf16) (hOM : OM = omv p b i) (x0 x2 : Vec Ideal S1x16x1024 .f32)
    (x1 : Vec Ideal S1x512x1024 .f32) (x9 : Vec Ideal S1024x1024 .bf16) (x10 x12 x13 : Vec Ideal S1x1x1024 .f32) (x11 : Vec Ideal S1x1024 .f32)
    (g0 : ∀ (r : Fin 16) (c : Fin 1024) (q : Fin 544), q.val = r.val → x0 (ix3 0 r c) = p.X (ix3 b (row i q) c))
    (g1 : ∀ (r : Fin 512) (c : Fin 1024) (q : Fin 544), q.val = 16 + r.val → x1 (ix3 0 r c) = p.X (ix3 b (row i q) c))
    (g2 : ∀ (r : Fin 16) (c : Fin 1024) (q : Fin 544), q.val = 528 + r.val → x2 (ix3 0 r c) = p.X (ix3 b (row i q) c))
    (h9 : ∀ k c : Fin 1024, x9 (ix2 k c) = p.W (ix2 k c)) (h10 : ∀ c : Fin 1024, x10 (ix3 0 0 c) = md p b 2048 (by omega) c)
    (h11 : ∀ c : Fin 1024, x11 (ix2 0 c) = p.G (ix1 c)) (h12 : ∀ c : Fin 1024, x12 (ix3 0 0 c) = md p b 3072 (by omega) c)
    (h13 : ∀ c : Fin 1024, x13 (ix3 0 0 c) = md p b 4096 (by omega) c) :
    View.readCov (Val := Elt Ideal) (View.whole cc0_scratch0) [⟨Rect.unit ![528,0] ![16,1024] inb_S544x1024_S16x1024_528_0, k0_pay19 (k0_pay8 x10 OM x9) (k0_pay10 x11) (k0_pay11 x12) (k0_pay12 x13) (k0_pay14 (BitVec.ofNat 32 n)) x2⟩,
      ⟨Rect.unit ![16,0] ![512,1024] inb_S544x1024_S512x1024_16_0, k0_pay18 (k0_pay17 (k0_pay9 x10 OM x9 x1) (k0_pay10 x11) (k0_pay11 x12) (k0_pay12 x13))⟩,
      ⟨Rect.unit ![0,0] ![16,1024] inb_S544x1024_S16x1024_0_0, k0_pay16 (k0_pay8 x10 OM x9) (k0_pay10 x11) (k0_pay11 x12) (k0_pay12 x13) (k0_pay13 (BitVec.ofNat 32 n)) (k0_pay15 x0)⟩]
      (Rect.unit ![0,0] ![544,1024] inb_S544x1024_S544x1024_0_0).toLoadRect
    = hv p b i := by
  subst hOM hn
  have mixq : ∀ (q : Fin 544), (fun c => p.X (ix3 b (row i q) c) + k0_pay8 x10 (omv p b i) x9 (ix2 q c)) = mix p b (row i q) :=
    fun q => funext fun c => by rw [pay8_eq p b i x10 x9 h9 h10, mix]
  have rowq : ∀ (q : Fin 544) (f : Fin 1024 → EReal) (c : Fin 1024) (s : EReal), f = mix p b (row i q) → s = keep i q →
      modk f (k0_pay10 x11) (k0_pay11 x12) (k0_pay12 x13) c * s = hv p b i (ix2 q c) := fun q f c s hf hs => by
    rw [modk_eq p b f (row i q) _ _ _ c hf ((pay10_at _ _).trans (h11 c)) ((pay11_at _ _).trans (h12 c)) ((pay12_at _ _).trans (h13 c)), hs]; rfl
  rw [View.readCov_eq_canon']
  funext y
  have hy : (Rect.unit ![0,0] ![544,1024] inb_S544x1024_S544x1024_0_0).toLoadRect.idx y = y :=
    funext fun a => Fin.ext ((Rect.idx_unit_val _ _ _ _ a).trans (by fin_cases a <;> simp))
  rw [hy]
  revert y
  show ∀ y : S544x1024.Idx, _
  intro y hy
  have y0 : (y 0).val < 544 := (y 0).2
  have y1 : (y 1).val < 1024 := (y 1).2
  have ey : y = ix2 (y 0) (y 1) := by blk_ext
  canon_tiles x h using (by
    by_cases r : (y 0).val < 16
    · exact ⟨_, .tail _ (.tail _ (.head _)), mem2 inb_S544x1024_S16x1024_0_0 y (by omega) (by omega)⟩
    · by_cases r' : (y 0).val < 528
      · exact ⟨_, .tail _ (.head _), mem2 inb_S544x1024_S512x1024_16_0 y (by omega) (by omega)⟩
      · exact ⟨_, .head _, mem2 inb_S544x1024_S16x1024_528_0 y (by omega) (by omega)⟩)
  · have e1 : x 1 = y 1 := Fin.ext h1.symm
    have e0 : (⟨528 + (x 0).val, by omega⟩ : Fin 544) = y 0 := Fin.ext h0.symm
    refine (pay19_at _ _ _ _ _ _ _).trans ((rowq (y 0) _ (x 1) _ ?_ ?_).trans (congrArg (hv p b i) ((congrArg (ix2 (y 0)) e1).trans ey.symm)))
    · exact Eq.trans (funext fun c => congrArg₂ (· + ·) (g2 (x 0) c (y 0) h0) (congrArg (fun q => k0_pay8 x10 (omv p b i) x9 (ix2 q c)) e0)) (mixq (y 0))
    · exact (pay14_at i).trans (keep_hi i (y 0) (by omega)).symm
  · have e1 : x 1 = y 1 := Fin.ext h1.symm
    have e0 : (⟨16 + (x 0).val, by omega⟩ : Fin 544) = y 0 := Fin.ext h0.symm
    refine (pay17_at _ _ _ _ _).trans ((mul_one _).symm.trans ((rowq (y 0) _ (x 1) 1 ?_ ?_).trans (congrArg (hv p b i) ((congrArg (ix2 (y 0)) e1).trans ey.symm))))
    · exact Eq.trans (funext fun c => (pay9_at _ _ _ _ _).trans
        (congrArg₂ (· + ·) (g1 (x 0) c (y 0) h0) (congrArg (fun q => k0_pay8 x10 (omv p b i) x9 (ix2 q c)) e0))) (mixq (y 0))
    · exact (keep_mid i (y 0) (by omega) (by omega)).symm
  · have e1 : x 1 = y 1 := Fin.ext h1.symm
    have e0 : (⟨(x 0).val, by omega⟩ : Fin 544) = y 0 := Fin.ext h0.symm
    refine (pay16_at _ _ _ _ _ _ _).trans ((rowq (y 0) _ (x 1) _ ?_ ?_).trans (congrArg (hv p b i) ((congrArg (ix2 (y 0)) e1).trans ey.symm)))
    · exact Eq.trans (funext fun c => congrArg₂ (· + ·) ((pay15_at _ _).trans (g0 (x 0) c (y 0) h0)) (congrArg (fun q => k0_pay8 x10 (omv p b i) x9 (ix2 q c)) e0)) (mixq (y 0))
    · exact (pay13_at i).trans (keep_lo i (y 0) (by omega)).symm

/-! ## The FFN -/

/-- The convolution of the gate half at row `r` of the tile, channel `k`, as the kernel computes it. -/
def cg (v134 : FVec Ideal S544x2816 .f32) (v137 : FVec Ideal S8x2816 .f32) (v139 : FVec Ideal S512x2816 .f32) (v140 : FVec Ideal S544x2816 .f32)
    (r : Fin 512) (k : Fin 2816) : EReal :=
  v139 (ix2 r k) * v137 (ix2 0 k) + v134 (ix2 ⟨16 + r.val, by omega⟩ k) * v137 (ix2 1 k) + v140 (ix2 ⟨16 + r.val, by omega⟩ k) * v137 (ix2 2 k) + v137 (ix2 3 k)
/-- The convolution of the value half. -/
def cv (v135 : FVec Ideal S544x2816 .f32) (v157 : Vec Ideal S8x2816 .f32) (r : Fin 512) (k : Fin 2816) : EReal :=
  v135 (ix2 ⟨(16 + r.val + 544 - 1) % 544, Nat.mod_lt _ (by omega)⟩ k) * v157 (ix2 0 k) + v135 (ix2 ⟨16 + r.val, by omega⟩ k) * v157 (ix2 1 k)
    + v135 (ix2 ⟨(16 + r.val + 544 - 543) % 544, Nat.mod_lt _ (by omega)⟩ k) * v157 (ix2 2 k) + v157 (ix2 3 k)

theorem pay26_at (v134 v135 : FVec Ideal S544x2816 .f32) (v137 : FVec Ideal S8x2816 .f32) (v139 : FVec Ideal S512x2816 .f32) (v140 : FVec Ideal S544x2816 .f32)
    (v157 : Vec Ideal S8x2816 .f32) (v188 : Vec Ideal S2816x1024 .bf16) (j : S512x1024.Idx) :
    k0_pay26 v134 v135 v137 v139 v140 v157 v188 j
      = ∑ x : Fin 2816, cg v134 v137 v139 v140 (j 0) x * Ideal.div 1 (1 + Ideal.exp (0 - cg v134 v137 v139 v140 (j 0) x)) * cv v135 v157 (j 0) x * v188 (ix2 x (j 1)) := by
  unfold cg cv; pointwise [k0_pay26]

/-- The up projection of staged row `q` is the padded one's row. -/
theorem hu_eq (x15 : Vec Ideal S1024x5632 .bf16) (h15 : ∀ (c : Fin 1024) (k : Fin 5632), x15 (ix2 c k) = p.WU (ix2 c k))
    (r d : ℕ) (hr : r < 512) (hd : d < 3) (k : Fin 5632) (q : Fin 544) (hq : q.val = 15 + r + d) :
    hu (hv p b i) x15 q k = upz p b (d + (i.val * 512 + r)) k := by
  rw [← keep_up p b i r d hr hd k q hq, ← up_keep]
  exact Finset.sum_congr rfl fun c _ => congrArg (hv p b i (ix2 q c) * ·) (h15 c k)

/-- The left half of the taps' array, and the right half. -/
theorem ld_lo (x16 : Vec Ideal S8x5632 .f32) (a : Fin 8) (k : Fin 2816) :
    View.ld x16 (Rect.unit ![0,0] ![8,2816] inb_S8x5632_S8x2816_0_0) (ix2 a k) = x16 (ix2 a ⟨k.val, by omega⟩) :=
  View.ld_unit_apply_of _ _ _ _ _ _ (Fin.forall_fin_two.2 ⟨(Nat.zero_add _).symm, (Nat.zero_add _).symm⟩)
theorem ld_hi (x16 : Vec Ideal S8x5632 .f32) (a : Fin 8) (k : Fin 2816) :
    View.ld x16 (Rect.unit ![0,2816] ![8,2816] inb_S8x5632_S8x2816_0_2816) (ix2 a k) = x16 (ix2 a ⟨2816 + k.val, by omega⟩) :=
  View.ld_unit_apply_of _ _ _ _ _ _ (Fin.forall_fin_two.2 ⟨(Nat.zero_add _).symm, rfl⟩)

theorem cg_eq (x15 : Vec Ideal S1024x5632 .bf16) (h15 : ∀ (c : Fin 1024) (k : Fin 5632), x15 (ix2 c k) = p.WU (ix2 c k))
    (x16 : Vec Ideal S8x5632 .f32) (h16 : ∀ k : Fin 5632, x16 (ix2 0 k) = p.CK (ix2 0 k) ∧ x16 (ix2 1 k) = p.CK (ix2 1 k) ∧ x16 (ix2 2 k) = p.CK (ix2 2 k) ∧ x16 (ix2 3 k) = p.CB (ix1 k))
    (r : Fin 512) (k : Fin 2816) :
    cg (k0_pay21 (hv p b i) x15) (k0_pay23 (View.ld x16 (Rect.unit ![0,0] ![8,2816] inb_S8x5632_S8x2816_0_0))) (k0_pay24 (hv p b i) x15) (k0_pay25 (hv p b i) x15) r k
      = conv p b (i.val * 512 + r.val) ⟨k.val, by omega⟩ := by
  obtain ⟨a0, a1, a2, a3⟩ := h16 ⟨k.val, by omega⟩
  have e0 := (pay24_at (hv p b i) x15 (ix2 r k)).trans (hu_eq p b i x15 h15 r.val 0 r.2 (by omega) ⟨k.val, by omega⟩ _ (by show (16 + r.val + 544 - 1) % 544 = _; omega))
  have e1 := (pay21_at (hv p b i) x15 (ix2 ⟨16 + r.val, by omega⟩ k)).trans (hu_eq p b i x15 h15 r.val 1 r.2 (by omega) ⟨k.val, by omega⟩ _ (by show 16 + r.val = _; omega))
  have e2 := (pay25_at (hv p b i) x15 (ix2 ⟨16 + r.val, by omega⟩ k)).trans (hu_eq p b i x15 h15 r.val 2 r.2 (by omega) ⟨k.val, by omega⟩ _ (by show (16 + r.val + 544 - 543) % 544 = _; omega))
  rw [cg, conv, e0, e1, e2, pay23_at, pay23_at, pay23_at, pay23_at, ld_lo, ld_lo, ld_lo, ld_lo, a0, a1, a2, a3, Nat.zero_add]

theorem cv_eq (x15 : Vec Ideal S1024x5632 .bf16) (h15 : ∀ (c : Fin 1024) (k : Fin 5632), x15 (ix2 c k) = p.WU (ix2 c k))
    (x16 : Vec Ideal S8x5632 .f32) (h16 : ∀ k : Fin 5632, x16 (ix2 0 k) = p.CK (ix2 0 k) ∧ x16 (ix2 1 k) = p.CK (ix2 1 k) ∧ x16 (ix2 2 k) = p.CK (ix2 2 k) ∧ x16 (ix2 3 k) = p.CB (ix1 k))
    (r : Fin 512) (k : Fin 2816) :
    cv (k0_pay22 (hv p b i) x15) (View.ld x16 (Rect.unit ![0,2816] ![8,2816] inb_S8x5632_S8x2816_0_2816)) r k
      = conv p b (i.val * 512 + r.val) ⟨2816 + k.val, by omega⟩ := by
  obtain ⟨a0, a1, a2, a3⟩ := h16 ⟨2816 + k.val, by omega⟩
  have e0 := (pay22_at (hv p b i) x15 (ix2 ⟨(16 + r.val + 544 - 1) % 544, Nat.mod_lt _ (by omega)⟩ k)).trans (hu_eq p b i x15 h15 r.val 0 r.2 (by omega) ⟨2816 + k.val, by omega⟩ _ (by show (16 + r.val + 544 - 1) % 544 = _; omega))
  have e1 := (pay22_at (hv p b i) x15 (ix2 ⟨16 + r.val, by omega⟩ k)).trans (hu_eq p b i x15 h15 r.val 1 r.2 (by omega) ⟨2816 + k.val, by omega⟩ _ (by show 16 + r.val = _; omega))
  have e2 := (pay22_at (hv p b i) x15 (ix2 ⟨(16 + r.val + 544 - 543) % 544, Nat.mod_lt _ (by omega)⟩ k)).trans (hu_eq p b i x15 h15 r.val 2 r.2 (by omega) ⟨2816 + k.val, by omega⟩ _ (by show (16 + r.val + 544 - 543) % 544 = _; omega))
  rw [cv, conv, e0, e1, e2, ld_hi, ld_hi, ld_hi, ld_hi, a0, a1, a2, a3, Nat.zero_add]

/-- The down projection's row `r` of the tile. -/
theorem ffn_eq (x15 : Vec Ideal S1024x5632 .bf16) (h15 : ∀ (c : Fin 1024) (k : Fin 5632), x15 (ix2 c k) = p.WU (ix2 c k))
    (x16 : Vec Ideal S8x5632 .f32) (h16 : ∀ k : Fin 5632, x16 (ix2 0 k) = p.CK (ix2 0 k) ∧ x16 (ix2 1 k) = p.CK (ix2 1 k) ∧ x16 (ix2 2 k) = p.CK (ix2 2 k) ∧ x16 (ix2 3 k) = p.CB (ix1 k))
    (x17 : Vec Ideal S2816x1024 .bf16) (h17 : ∀ (k : Fin 2816) (c : Fin 1024), x17 (ix2 k c) = p.WD (ix2 k c)) (r : Fin 512) (c : Fin 1024) :
    k0_pay26 (k0_pay21 (hv p b i) x15) (k0_pay22 (hv p b i) x15) (k0_pay23 (View.ld x16 (Rect.unit ![0,0] ![8,2816] inb_S8x5632_S8x2816_0_0)))
      (k0_pay24 (hv p b i) x15) (k0_pay25 (hv p b i) x15) (View.ld x16 (Rect.unit ![0,2816] ![8,2816] inb_S8x5632_S8x2816_0_2816)) x17 (ix2 r c)
      = ∑ k, act p b (i.val * 512 + r.val) k * p.WD (ix2 k c) := by
  refine (pay26_at _ _ _ _ _ _ _ _).trans (Finset.sum_congr rfl fun k _ => ?_)
  have e := cg_eq p b i x15 h15 x16 h16 r k
  have e' := cv_eq p b i x15 h15 x16 h16 r k
  rw [act, ← h17 k c, ← e, ← e', zero_sub]; rfl

/-- The row the tile leaves before the last norm. -/
def okf (v41 v190 : FVec Ideal S512x1024 .f32) (v191 : Vec Ideal S1x1x1024 .f32) (r : Fin 512) (c : Fin 1024) : EReal :=
  v41 (ix2 r c) + v191 (ix3 0 0 c) * v190 (ix2 r c)
theorem pay1_at (v41 v190 : FVec Ideal S512x1024 .f32) (v191 : Vec Ideal S1x1x1024 .f32) (v206 : Vec Ideal S1x1024 .f32) (j : S1x512x1024.Idx) :
    k0_pay1 v41 v190 v191 v206 j = rms (okf v41 v190 v191 (j 1)) (j 2) * v206 (ix2 0 (j 2)) := by
  unfold rms okf; pointwise [k0_pay1]

/-- The tile the body stores, from the blocks it reads and the two staged arrays. -/
theorem body_at (FG : A1 1024) (OM H : Vec Ideal S544x1024 .bf16) (hOM : OM = omv p b i) (hH : H = hv p b i)
    (x1 : Vec Ideal S1x512x1024 .f32) (x9 : Vec Ideal S1024x1024 .bf16) (x10 x14 : Vec Ideal S1x1x1024 .f32)
    (x15 : Vec Ideal S1024x5632 .bf16) (x16 : Vec Ideal S8x5632 .f32) (x17 : Vec Ideal S2816x1024 .bf16) (x18 : Vec Ideal S1x1024 .f32)
    (g1 : ∀ (r : Fin 512) (c : Fin 1024) (q : Fin 544), q.val = 16 + r.val → x1 (ix3 0 r c) = p.X (ix3 b (row i q) c))
    (h9 : ∀ k c : Fin 1024, x9 (ix2 k c) = p.W (ix2 k c)) (h10 : ∀ c : Fin 1024, x10 (ix3 0 0 c) = md p b 2048 (by omega) c)
    (h14 : ∀ c : Fin 1024, x14 (ix3 0 0 c) = md p b 5120 (by omega) c)
    (h15 : ∀ (c : Fin 1024) (k : Fin 5632), x15 (ix2 c k) = p.WU (ix2 c k))
    (h16 : ∀ k : Fin 5632, x16 (ix2 0 k) = p.CK (ix2 0 k) ∧ x16 (ix2 1 k) = p.CK (ix2 1 k) ∧ x16 (ix2 2 k) = p.CK (ix2 2 k) ∧ x16 (ix2 3 k) = p.CB (ix1 k))
    (h17 : ∀ (k : Fin 2816) (c : Fin 1024), x17 (ix2 k c) = p.WD (ix2 k c)) (h18 : ∀ c : Fin 1024, x18 (ix2 0 c) = FG (ix1 c))
    (y : S1x512x1024.Idx) (r : Fin 4096) (hr : r.val = i.val * 512 + (y 1).val) :
    k0_pay1 (k0_pay9 x10 OM x9 x1) (k0_pay26 (k0_pay21 H x15) (k0_pay22 H x15) (k0_pay23 (View.ld x16 (Rect.unit ![0,0] ![8,2816] inb_S8x5632_S8x2816_0_0)))
      (k0_pay24 H x15) (k0_pay25 H x15) (View.ld x16 (Rect.unit ![0,2816] ![8,2816] inb_S8x5632_S8x2816_0_2816)) x17) x14 x18 y
      = fin p FG b r (y 2) := by
  subst hOM hH
  have hy : (y 1).val < 512 := (y 1).2
  have hq : row i ⟨16 + (y 1).val, by omega⟩ = r := by
    have := row_mid i ⟨16 + (y 1).val, by omega⟩ (by show ¬ 16 + (y 1).val < 16; omega) (by show 16 + (y 1).val < 528; omega)
    refine Fin.ext ?_
    dsimp only at this
    omega
  refine (pay1_at _ _ _ _ _).trans (congrArg₂ (· * ·) (congrFun (congrArg rms (funext fun c => ?_)) (y 2)) (h18 (y 2)))
  refine congrArg₂ (· + ·) ?_ (congrArg₂ (· * ·) (h14 c) ((ffn_eq p b i x15 h15 x16 h16 x17 h17 (y 1) c).trans (by rw [hr])))
  refine (pay9_at _ _ _ _ _).trans ?_
  refine (congrArg₂ (· + ·) (g1 (y 1) c ⟨16 + (y 1).val, by omega⟩ rfl) (pay8_eq p b i x10 x9 h9 h10 ⟨16 + (y 1).val, by omega⟩ c)).trans ?_
  rw [hq]; rfl

end Cert.KernelIdeal.Hand
end
-- ==== Proof.KWindows.lean ====
module

public import proofs.«01_k».proof.Proof.Gen.KernelIdeal.Value
public import proofs.«01_k».proof.Proof.Math
public import Idealize.ShloMosaic.Lib.Pipeline.ValueKit
@[expose] public section

set_option maxRecDepth 16384

/-
  Which elements of the arguments the blocks of the kernel's windows hold at grid point `t`: tile `t % 8` of batch entry
  `t / 8`.
-/
noncomputable section
open Idealize.ShloMosaic Idealize.ShloMosaic.TcCoe Idealize.SL.Sem
open Idealize.ShloMosaic.StableHlo
namespace Cert.KernelIdeal.Hand
open Cert.KernelIdeal Cert.KernelIdeal.Gen
variable (m : (ℓ : Loc nD τ sig) → Buf (Elt Ideal) ℓ)

/-! ## The taps -/

/-- The convolution's taps and bias as the kernel holds them: three rows of taps, the bias, four rows of zeros. -/
def CW (A : FVec Ideal S3x5632 .f32) (B : FVec Ideal S5632 .f32) : FVec Ideal S8x5632 .f32 :=
  concatenate S8x5632 0 [⟨S3x5632, A⟩, ⟨S1x5632, broadcastInDim S1x5632 ![1] bcast_S5632_S1x5632_1 B⟩, ⟨S4x5632, broadcastInDim S4x5632 ![] bcast_S_S4x5632 (constant (F := Ideal) S_ .f32 0x00000000#32)⟩] concatenates_S3x5632_S1x5632_S4x5632_S8x5632_d0

theorem cat3_congr {A A' : FVec Ideal S3x5632 .f32} {B B' : FVec Ideal S1x5632 .f32} {C C' : FVec Ideal S4x5632 .f32} (hA : A = A') (hB : B = B') (hC : C = C') :
    concatenate S8x5632 0 [⟨S3x5632, A⟩, ⟨S1x5632, B⟩, ⟨S4x5632, C⟩] concatenates_S3x5632_S1x5632_S4x5632_S8x5632_d0
    = concatenate S8x5632 0 [⟨S3x5632, A'⟩, ⟨S1x5632, B'⟩, ⟨S4x5632, C'⟩] concatenates_S3x5632_S1x5632_S4x5632_S8x5632_d0 := by
  rw [hA, hB, hC]
/-- The first four host operations. -/
abbrev hostHead : List (HloOp τ sig (Elt Ideal)) := hostOps0.take 4
theorem head7 (σ : Valuation τ sig (Elt Ideal)) : StableHlo.after hostHead σ (Proc.devRef .tc main_arg7) = σ (Proc.devRef .tc main_arg7) := by
  simp only [hostHead, hostOps0, List.take]
  after_results
theorem head1 (σ : Valuation τ sig (Elt Ideal)) : StableHlo.after hostHead σ (Proc.devRef .tc main_v1) = broadcastInDim S1x5632 ![1] bcast_S5632_S1x5632_1 (σ (Proc.devRef .tc main_arg8) : FVec Ideal S5632 .f32) := by
  simp only [hostHead, hostOps0, List.take]
  after_results
theorem head2 (σ : Valuation τ sig (Elt Ideal)) : StableHlo.after hostHead σ (Proc.devRef .tc main_v2) = broadcastInDim S4x5632 ![] bcast_S_S4x5632 (constant (F := Ideal) S_ .f32 0x00000000#32) := by
  simp only [hostHead, hostOps0, List.take]
  after_results
theorem v3_eq (c : Dev nD) : V m c main_v3 = CW (m ((c : Thread nD τ).loc main_arg7)) (m ((c : Thread nD τ).loc main_arg8)) := by
  unfold V
  simp only [hostOps0, StableHlo.after_cons, StableHlo.after_nil]
  after_results_simp
  exact cat3_congr (head7 fun b => m (c, b)) (head1 fun b => m (c, b)) (head2 fun b => m (c, b))

theorem CW_w (A : FVec Ideal S3x5632 .f32) (B : FVec Ideal S5632 .f32) (q : Fin 3) (k : Fin 5632) (h : q.val < 8) : CW A B (ix2 ⟨q.val, h⟩ k) = A (ix2 q k) := by pointwise [CW]
theorem CW_b (A : FVec Ideal S3x5632 .f32) (B : FVec Ideal S5632 .f32) (k : Fin 5632) : CW A B (ix2 3 k) = B (ix1 k) := by pointwise [CW]

/-! ## The block each window stands at -/

theorem idx : ∀ t : Fin cfg0.N, win0_0.index t = ![t.val / 8, (t.val % 8) * 32 - 1, 0] ∧ win0_1.index t = ![t.val / 8, t.val % 8, 0]
    ∧ win0_2.index t = ![t.val / 8, min ((t.val % 8 + 1) * 32) 255, 0]
    ∧ win0_3.index t = ![t.val / 8, (t.val % 8) * 32 - 1, 0] ∧ win0_4.index t = ![t.val / 8, t.val % 8, 0]
    ∧ win0_5.index t = ![t.val / 8, min ((t.val % 8 + 1) * 32) 255, 0]
    ∧ win0_6.index t = ![t.val / 8, (t.val % 8) * 32 - 1, 0] ∧ win0_7.index t = ![t.val / 8, t.val % 8, 0]
    ∧ win0_8.index t = ![t.val / 8, min ((t.val % 8 + 1) * 32) 255, 0] ∧ win0_9.index t = ![0, 0] ∧ win0_10.index t = ![t.val / 8, 0, 2] ∧ win0_11.index t = ![0, 0]
    ∧ win0_12.index t = ![t.val / 8, 0, 3] ∧ win0_13.index t = ![t.val / 8, 0, 4] ∧ win0_14.index t = ![t.val / 8, 0, 5]
    ∧ win0_15.index t = ![0, 0] ∧ win0_16.index t = ![0, 0] ∧ win0_17.index t = ![0, 0] ∧ win0_18.index t = ![0, 0]
    ∧ win0_19.index t = ![t.val / 8, t.val % 8, 0] ∧ (grid0.coords t 1).val = t.val % 8 ∧ t.val / 8 < 8 :=
  (by decide +kernel : ∀ t : Fin grid0.N, _)

/-! ## The blocks' elements -/

theorem w0 (c : Dev nD) (t : Fin cfg0.N) (y : S1x16x1024.Idx) (h : t.val / 8 < 8) (h2 : ((t.val % 8) * 32 - 1) * 16 + (y 1).val < 4096) :
    iblk m c 0 t y = m ((c : Thread nD τ).loc main_arg0) (ix3 ⟨t.val / 8, h⟩ ⟨((t.val % 8) * 32 - 1) * 16 + (y 1).val, h2⟩ (y 2)) := by
  blk_ext [iblk, V, idx t]

theorem w1 (c : Dev nD) (t : Fin cfg0.N) (y : S1x512x1024.Idx) (h : t.val / 8 < 8) (h2 : (t.val % 8) * 512 + (y 1).val < 4096) :
    iblk m c 1 t y = m ((c : Thread nD τ).loc main_arg0) (ix3 ⟨t.val / 8, h⟩ ⟨(t.val % 8) * 512 + (y 1).val, h2⟩ (y 2)) := by
  blk_ext [iblk, V, idx t]

theorem w2 (c : Dev nD) (t : Fin cfg0.N) (y : S1x16x1024.Idx) (h : t.val / 8 < 8) (h2 : (min ((t.val % 8 + 1) * 32) 255) * 16 + (y 1).val < 4096) :
    iblk m c 2 t y = m ((c : Thread nD τ).loc main_arg0) (ix3 ⟨t.val / 8, h⟩ ⟨(min ((t.val % 8 + 1) * 32) 255) * 16 + (y 1).val, h2⟩ (y 2)) := by
  blk_ext [iblk, V, idx t]

theorem w3 (c : Dev nD) (t : Fin cfg0.N) (y : S1x16x512.Idx) (h : t.val / 8 < 8) (h2 : ((t.val % 8) * 32 - 1) * 16 + (y 1).val < 4096) :
    iblk m c 3 t y = m ((c : Thread nD τ).loc main_arg1) (ix3 ⟨t.val / 8, h⟩ ⟨((t.val % 8) * 32 - 1) * 16 + (y 1).val, h2⟩ (y 2)) := by
  blk_ext [iblk, V, idx t]

theorem w4 (c : Dev nD) (t : Fin cfg0.N) (y : S1x512x512.Idx) (h : t.val / 8 < 8) (h2 : (t.val % 8) * 512 + (y 1).val < 4096) :
    iblk m c 4 t y = m ((c : Thread nD τ).loc main_arg1) (ix3 ⟨t.val / 8, h⟩ ⟨(t.val % 8) * 512 + (y 1).val, h2⟩ (y 2)) := by
  blk_ext [iblk, V, idx t]

theorem w5 (c : Dev nD) (t : Fin cfg0.N) (y : S1x16x512.Idx) (h : t.val / 8 < 8) (h2 : (min ((t.val % 8 + 1) * 32) 255) * 16 + (y 1).val < 4096) :
    iblk m c 5 t y = m ((c : Thread nD τ).loc main_arg1) (ix3 ⟨t.val / 8, h⟩ ⟨(min ((t.val % 8 + 1) * 32) 255) * 16 + (y 1).val, h2⟩ (y 2)) := by
  blk_ext [iblk, V, idx t]

theorem w6 (c : Dev nD) (t : Fin cfg0.N) (y : S1x16x512.Idx) (h : t.val / 8 < 8) (h2 : ((t.val % 8) * 32 - 1) * 16 + (y 1).val < 4096) :
    iblk m c 6 t y = m ((c : Thread nD τ).loc main_arg2) (ix3 ⟨t.val / 8, h⟩ ⟨((t.val % 8) * 32 - 1) * 16 + (y 1).val, h2⟩ (y 2)) := by
  blk_ext [iblk, V, idx t]

theorem w7 (c : Dev nD) (t : Fin cfg0.N) (y : S1x512x512.Idx) (h : t.val / 8 < 8) (h2 : (t.val % 8) * 512 + (y 1).val < 4096) :
    iblk m c 7 t y = m ((c : Thread nD τ).loc main_arg2) (ix3 ⟨t.val / 8, h⟩ ⟨(t.val % 8) * 512 + (y 1).val, h2⟩ (y 2)) := by
  blk_ext [iblk, V, idx t]

theorem w8 (c : Dev nD) (t : Fin cfg0.N) (y : S1x16x512.Idx) (h : t.val / 8 < 8) (h2 : (min ((t.val % 8 + 1) * 32) 255) * 16 + (y 1).val < 4096) :
    iblk m c 8 t y = m ((c : Thread nD τ).loc main_arg2) (ix3 ⟨t.val / 8, h⟩ ⟨(min ((t.val % 8 + 1) * 32) 255) * 16 + (y 1).val, h2⟩ (y 2)) := by
  blk_ext [iblk, V, idx t]

theorem w10 (c : Dev nD) (t : Fin cfg0.N) (y : S1x1x1024.Idx) (h : t.val / 8 < 16) (h2 : 2048 + (y 2).val < 6144) :
    iblk m c 10 t y = m ((c : Thread nD τ).loc main_arg5) (ix2 ⟨t.val / 8, h⟩ ⟨2048 + (y 2).val, h2⟩) := by
  blk_simp [iblk, idx t]; entry_read; pointwise; blk_ext [idx t]

theorem w12 (c : Dev nD) (t : Fin cfg0.N) (y : S1x1x1024.Idx) (h : t.val / 8 < 16) (h2 : 3072 + (y 2).val < 6144) :
    iblk m c 12 t y = m ((c : Thread nD τ).loc main_arg5) (ix2 ⟨t.val / 8, h⟩ ⟨3072 + (y 2).val, h2⟩) := by
  blk_simp [iblk, idx t]; entry_read; pointwise; blk_ext [idx t]

theorem w13 (c : Dev nD) (t : Fin cfg0.N) (y : S1x1x1024.Idx) (h : t.val / 8 < 16) (h2 : 4096 + (y 2).val < 6144) :
    iblk m c 13 t y = m ((c : Thread nD τ).loc main_arg5) (ix2 ⟨t.val / 8, h⟩ ⟨4096 + (y 2).val, h2⟩) := by
  blk_simp [iblk, idx t]; entry_read; pointwise; blk_ext [idx t]

theorem w14 (c : Dev nD) (t : Fin cfg0.N) (y : S1x1x1024.Idx) (h : t.val / 8 < 16) (h2 : 5120 + (y 2).val < 6144) :
    iblk m c 14 t y = m ((c : Thread nD τ).loc main_arg5) (ix2 ⟨t.val / 8, h⟩ ⟨5120 + (y 2).val, h2⟩) := by
  blk_simp [iblk, idx t]; entry_read; pointwise; blk_ext [idx t]

theorem w9 (c : Dev nD) (t : Fin cfg0.N) (y : S1024x1024.Idx) :
    iblk m c 9 t y = m ((c : Thread nD τ).loc main_arg3) (ix2 (y 0) (y 1)) := by
  blk_simp [iblk, idx t]; entry_read; pointwise; blk_ext [idx t]

theorem w15 (c : Dev nD) (t : Fin cfg0.N) (y : S1024x5632.Idx) :
    iblk m c 15 t y = m ((c : Thread nD τ).loc main_arg6) (ix2 (y 0) (y 1)) := by
  blk_simp [iblk, idx t]; entry_read; pointwise; blk_ext [idx t]

theorem w17 (c : Dev nD) (t : Fin cfg0.N) (y : S2816x1024.Idx) :
    iblk m c 17 t y = m ((c : Thread nD τ).loc main_arg9) (ix2 (y 0) (y 1)) := by
  blk_simp [iblk, idx t]; entry_read; pointwise; blk_ext [idx t]

theorem w11 (c : Dev nD) (t : Fin cfg0.N) (y : S1x1024.Idx) :
    iblk m c 11 t y = m ((c : Thread nD τ).loc main_arg4) (ix1 (y 1)) := by
  blk_simp [iblk, idx t]; entry_read; pointwise; blk_ext [idx t]

theorem w18 (c : Dev nD) (t : Fin cfg0.N) (y : S1x1024.Idx) :
    iblk m c 18 t y = m ((c : Thread nD τ).loc main_arg10) (ix1 (y 1)) := by
  blk_simp [iblk, idx t]; entry_read; pointwise; blk_ext [idx t]

theorem emb16 (t : Fin cfg0.N) (y : S8x5632.Idx) : ((cfg0.win 16).blk t).view.emb y = y := by
  have h := (idx t).2.2.2.2.2.2.2.2.2.2.2.2.2.2.2.2.1
  blk_ext [h]
theorem w16 (c : Dev nD) (t : Fin cfg0.N) (y : S8x5632.Idx) :
    iblk m c 16 t y = CW (m ((c : Thread nD τ).loc main_arg7)) (m ((c : Thread nD τ).loc main_arg8)) y :=
  (congrArg (V m c main_v3) (emb16 t y)).trans (congrFun (v3_eq m c) y)

end Cert.KernelIdeal.Hand
end
-- ==== Proof.KArray.lean ====
module

public import proofs.«01_k».proof.Proof.KBody
public import proofs.«01_k».proof.Proof.KWindows
@[expose] public section

set_option maxRecDepth 16384

/-
  The kernel's result array: at every element the mathematics' `fin`.
-/
noncomputable section
open Idealize.ShloMosaic Idealize.ShloMosaic.TcCoe Idealize.SL.Sem
open Idealize.ShloMosaic.Pipeline (Dat)
namespace Cert.KernelIdeal.Hand
open Cert.KernelIdeal Cert.KernelIdeal.Gen Cert.LayerEnd
variable (m : (ℓ : Loc nD τ sig) → Buf (Elt Ideal) ℓ)

/-- The arguments as device `c` holds them. -/
def args (c : Dev nD) : In where
  X := m ((c : Thread nD τ).loc main_arg0)
  OA := m ((c : Thread nD τ).loc main_arg1)
  OB := m ((c : Thread nD τ).loc main_arg2)
  W := m ((c : Thread nD τ).loc main_arg3)
  G := m ((c : Thread nD τ).loc main_arg4)
  M := m ((c : Thread nD τ).loc main_arg5)
  WU := m ((c : Thread nD τ).loc main_arg6)
  CK := m ((c : Thread nD τ).loc main_arg7)
  CB := m ((c : Thread nD τ).loc main_arg8)
  WD := m ((c : Thread nD τ).loc main_arg9)

/-- The result the mathematics gives of device `c`'s arguments. -/
def res (c : Dev nD) : S8x4096x1024.Idx → EReal :=
  fun j => fin (args m c) (m ((c : Thread nD τ).loc main_arg10)) (j 0) (j 1) (j 2)

/-- The batch entry and the tile of grid point `t`. -/
def bt (t : Fin cfg0.N) : Fin 8 := ⟨t.val / 8, (idx t).2.2.2.2.2.2.2.2.2.2.2.2.2.2.2.2.2.2.2.2.2⟩
def tl (t : Fin cfg0.N) : Fin 8 := ⟨t.val % 8, Nat.mod_lt _ (by omega)⟩

theorem lo_row (t : Fin cfg0.N) (r : Fin 16) (q : Fin 544) (h : q.val = r.val) (hb) : (⟨((t.val % 8) * 32 - 1) * 16 + r.val, hb⟩ : Fin 4096) = row (tl t) q :=
  Fin.ext (by have := r.2; rw [row_lo _ _ (by omega), h]; rfl)
theorem mid_row (t : Fin cfg0.N) (r : Fin 512) (q : Fin 544) (h : q.val = 16 + r.val) (hb) : (⟨(t.val % 8) * 512 + r.val, hb⟩ : Fin 4096) = row (tl t) q :=
  Fin.ext (by
    have := row_mid (tl t) q (by omega) (by have := r.2; omega)
    have e : (tl t).val = t.val % 8 := rfl
    rw [e] at this
    show t.val % 8 * 512 + r.val = _; omega)
theorem hi_row (t : Fin cfg0.N) (r : Fin 16) (q : Fin 544) (h : q.val = 528 + r.val) (hb) : (⟨(min ((t.val % 8 + 1) * 32) 255) * 16 + r.val, hb⟩ : Fin 4096) = row (tl t) q :=
  Fin.ext (by
    have := row_hi (tl t) q (by omega)
    have e : (tl t).val = t.val % 8 := rfl
    rw [e] at this
    show min ((t.val % 8 + 1) * 32) 255 * 16 + r.val = _; omega)

/-! ## The blocks, as the body reads them -/

theorem lo_lt (t : Fin cfg0.N) (r : Fin 16) : ((t.val % 8) * 32 - 1) * 16 + r.val < 4096 := by have := r.2; omega
theorem mid_lt (t : Fin cfg0.N) (r : Fin 512) : (t.val % 8) * 512 + r.val < 4096 := by have := r.2; omega
theorem hi_lt (t : Fin cfg0.N) (r : Fin 16) : (min ((t.val % 8 + 1) * 32) 255) * 16 + r.val < 4096 := by have := r.2; omega

theorem a0 (c : Dev nD) (t : Fin cfg0.N) (r : Fin 16) (k : Fin 1024) (q : Fin 544) (h : q.val = r.val) :
    iblk m c 0 t (ix3 0 r k) = (args m c).X (ix3 (bt t) (row (tl t) q) k) :=
  (w0 m c t (ix3 0 r k) (bt t).2 (lo_lt t r)).trans (congrArg (fun r => m ((c : Thread nD τ).loc main_arg0) (ix3 (bt t) r k)) (lo_row t r q h _))
theorem a1 (c : Dev nD) (t : Fin cfg0.N) (r : Fin 512) (k : Fin 1024) (q : Fin 544) (h : q.val = 16 + r.val) :
    iblk m c 1 t (ix3 0 r k) = (args m c).X (ix3 (bt t) (row (tl t) q) k) :=
  (w1 m c t (ix3 0 r k) (bt t).2 (mid_lt t r)).trans (congrArg (fun r => m ((c : Thread nD τ).loc main_arg0) (ix3 (bt t) r k)) (mid_row t r q h _))
theorem a2 (c : Dev nD) (t : Fin cfg0.N) (r : Fin 16) (k : Fin 1024) (q : Fin 544) (h : q.val = 528 + r.val) :
    iblk m c 2 t (ix3 0 r k) = (args m c).X (ix3 (bt t) (row (tl t) q) k) :=
  (w2 m c t (ix3 0 r k) (bt t).2 (hi_lt t r)).trans (congrArg (fun r => m ((c : Thread nD τ).loc main_arg0) (ix3 (bt t) r k)) (hi_row t r q h _))
theorem a3 (c : Dev nD) (t : Fin cfg0.N) (r : Fin 16) (k : Fin 512) (q : Fin 544) (h : q.val = r.val) :
    iblk m c 3 t (ix3 0 r k) = (args m c).OA (ix3 (bt t) (row (tl t) q) k) :=
  (w3 m c t (ix3 0 r k) (bt t).2 (lo_lt t r)).trans (congrArg (fun r => m ((c : Thread nD τ).loc main_arg1) (ix3 (bt t) r k)) (lo_row t r q h _))
theorem a4 (c : Dev nD) (t : Fin cfg0.N) (r : Fin 512) (k : Fin 512) (q : Fin 544) (h : q.val = 16 + r.val) :
    iblk m c 4 t (ix3 0 r k) = (args m c).OA (ix3 (bt t) (row (tl t) q) k) :=
  (w4 m c t (ix3 0 r k) (bt t).2 (mid_lt t r)).trans (congrArg (fun r => m ((c : Thread nD τ).loc main_arg1) (ix3 (bt t) r k)) (mid_row t r q h _))
theorem a5 (c : Dev nD) (t : Fin cfg0.N) (r : Fin 16) (k : Fin 512) (q : Fin 544) (h : q.val = 528 + r.val) :
    iblk m c 5 t (ix3 0 r k) = (args m c).OA (ix3 (bt t) (row (tl t) q) k) :=
  (w5 m c t (ix3 0 r k) (bt t).2 (hi_lt t r)).trans (congrArg (fun r => m ((c : Thread nD τ).loc main_arg1) (ix3 (bt t) r k)) (hi_row t r q h _))
theorem a6 (c : Dev nD) (t : Fin cfg0.N) (r : Fin 16) (k : Fin 512) (q : Fin 544) (h : q.val = r.val) :
    iblk m c 6 t (ix3 0 r k) = (args m c).OB (ix3 (bt t) (row (tl t) q) k) :=
  (w6 m c t (ix3 0 r k) (bt t).2 (lo_lt t r)).trans (congrArg (fun r => m ((c : Thread nD τ).loc main_arg2) (ix3 (bt t) r k)) (lo_row t r q h _))
theorem a7 (c : Dev nD) (t : Fin cfg0.N) (r : Fin 512) (k : Fin 512) (q : Fin 544) (h : q.val = 16 + r.val) :
    iblk m c 7 t (ix3 0 r k) = (args m c).OB (ix3 (bt t) (row (tl t) q) k) :=
  (w7 m c t (ix3 0 r k) (bt t).2 (mid_lt t r)).trans (congrArg (fun r => m ((c : Thread nD τ).loc main_arg2) (ix3 (bt t) r k)) (mid_row t r q h _))
theorem a8 (c : Dev nD) (t : Fin cfg0.N) (r : Fin 16) (k : Fin 512) (q : Fin 544) (h : q.val = 528 + r.val) :
    iblk m c 8 t (ix3 0 r k) = (args m c).OB (ix3 (bt t) (row (tl t) q) k) :=
  (w8 m c t (ix3 0 r k) (bt t).2 (hi_lt t r)).trans (congrArg (fun r => m ((c : Thread nD τ).loc main_arg2) (ix3 (bt t) r k)) (hi_row t r q h _))
theorem a10 (c : Dev nD) (t : Fin cfg0.N) (k : Fin 1024) : iblk m c 10 t (ix3 0 0 k) = md (args m c) (bt t) 2048 (by omega) k :=
  w10 m c t (ix3 0 0 k) (by have := (bt t).2; show t.val / 8 < 16; exact Nat.lt_of_lt_of_le this (by omega)) (by have := k.2; show 2048 + k.val < 6144; omega)
theorem a12 (c : Dev nD) (t : Fin cfg0.N) (k : Fin 1024) : iblk m c 12 t (ix3 0 0 k) = md (args m c) (bt t) 3072 (by omega) k :=
  w12 m c t (ix3 0 0 k) (by have := (bt t).2; show t.val / 8 < 16; exact Nat.lt_of_lt_of_le this (by omega)) (by have := k.2; show 3072 + k.val < 6144; omega)
theorem a13 (c : Dev nD) (t : Fin cfg0.N) (k : Fin 1024) : iblk m c 13 t (ix3 0 0 k) = md (args m c) (bt t) 4096 (by omega) k :=
  w13 m c t (ix3 0 0 k) (by have := (bt t).2; show t.val / 8 < 16; exact Nat.lt_of_lt_of_le this (by omega)) (by have := k.2; show 4096 + k.val < 6144; omega)
theorem a14 (c : Dev nD) (t : Fin cfg0.N) (k : Fin 1024) : iblk m c 14 t (ix3 0 0 k) = md (args m c) (bt t) 5120 (by omega) k :=
  w14 m c t (ix3 0 0 k) (by have := (bt t).2; show t.val / 8 < 16; exact Nat.lt_of_lt_of_le this (by omega)) (by have := k.2; show 5120 + k.val < 6144; omega)
theorem a16 (c : Dev nD) (t : Fin cfg0.N) (k : Fin 5632) : iblk m c 16 t (ix2 0 k) = (args m c).CK (ix2 0 k) ∧ iblk m c 16 t (ix2 1 k) = (args m c).CK (ix2 1 k)
    ∧ iblk m c 16 t (ix2 2 k) = (args m c).CK (ix2 2 k) ∧ iblk m c 16 t (ix2 3 k) = (args m c).CB (ix1 k) :=
  ⟨(w16 m c t _).trans (CW_w _ _ 0 k (by decide)), (w16 m c t _).trans (CW_w _ _ 1 k (by decide)), (w16 m c t _).trans (CW_w _ _ 2 k (by decide)), (w16 m c t _).trans (CW_b _ _ k)⟩

/-- The result array of the run. -/
theorem array_eq (c : Dev nD) : (dats m 0 c).arrAt 19 cfg0.N = res m c := by
  refine (dats m 0 c).arrAt_eq_of_covers 19 _ (by decide +kernel) fun t _ y => ?_
  have e : ((cfg0.win 19).blk t).view.emb y = ix3 (bt t) ⟨(t.val % 8) * 512 + (y 1).val, by have : (y 1).val < 512 := (y 1).2; omega⟩ (y 2) := by
    have h := (idx t).2.2.2.2.2.2.2.2.2.2.2.2.2.2.2.2.2.2.2.1
    blk_ext [h, bt]
  have n8 : t.val % 8 < 8 := Nat.mod_lt _ (by omega)
  have b8 := (bt t).2
  refine Eq.trans ?_ (congrArg (res m c) e.symm)
  rw [after0_19]
  unfold outsAt0
  frame_out
  have om := om_at (args m c) (bt t) (tl t) _ _ _ _ _ _ (a3 m c t) (a4 m c t) (a5 m c t) (a6 m c t) (a7 m c t) (a8 m c t)
  exact body_at (args m c) (bt t) (tl t) (m ((c : Thread nD τ).loc main_arg10)) _ _ om
    (h_at (args m c) (bt t) (tl t) _ (idx t).2.2.2.2.2.2.2.2.2.2.2.2.2.2.2.2.2.2.2.2.1 _ om _ _ _ _ _ _ _ _ (a0 m c t) (a1 m c t) (a2 m c t)
      (fun k j => w9 m c t (ix2 k j)) (a10 m c t) (fun k => w11 m c t (ix2 0 k)) (a12 m c t) (a13 m c t))
    _ _ _ _ _ _ _ _ (a1 m c t) (fun k j => w9 m c t (ix2 k j)) (a10 m c t) (a14 m c t) (fun k j => w15 m c t (ix2 k j)) (a16 m c t)
    (fun k j => w17 m c t (ix2 k j)) (fun k => w18 m c t (ix2 0 k)) y _ rfl

end Cert.KernelIdeal.Hand
end
-- ==== Proof.RefValue.lean ====
module

public import proofs.«01_k».proof.Proof.Gen.ReferenceIdeal.Run
public import proofs.«01_k».proof.Proof.Math
public import Idealize.ShloMosaic.Lib.Pipeline.ValueKit
@[expose] public section

set_option maxRecDepth 16384

/-
  The references' arrays, operation by operation, and the mathematics they are at every element.
-/
noncomputable section
open Idealize.ShloMosaic Idealize.ShloMosaic.TcCoe Idealize.SL.Sem
open Idealize.ShloMosaic.StableHlo
namespace Cert.ReferenceIdeal.Hand
open Cert.ReferenceIdeal Cert.ReferenceIdeal.Gen Cert.LayerEnd

/-- The modulation rows of the eight batch entries. -/
def r0 (p : In) : FVec Ideal S8x6144 .f32 :=
  extractStridedSlice S8x6144 ![0, 0] (p.M : FVec Ideal S16x6144 .f32) slices_S16x6144_S8x6144_0_0
/-- The residual stream after the gated output projection. -/
def r19 (p : In) : FVec Ideal S8x4096x1024 .f32 :=
  addf (p.X : FVec Ideal S8x4096x1024 .f32) (mulf (broadcastInDim S8x4096x1024 ![0, 1, 2] bcast_S8x1x1024_S8x4096x1024_0_1_2 (broadcastInDim S8x1x1024 ![0, 2] bcast_S8x1024_S8x1x1024_0_2 (extractStridedSlice S8x1024 ![0, 2048] (r0 p) slices_S8x6144_S8x1024_0_2048))) (Host.dotGeneral (φ₁ := .f32) (φ₂ := .f32) dot_S8x4096x1024_S1024x1024_S8x4096x1024_2_0_01_1_n_n none (concatenate S8x4096x1024 2 [⟨S8x4096x512, (extf .f32 (p.OA : FVec Ideal S8x4096x512 .bf16) bitsLt_bf16_f32)⟩, ⟨S8x4096x512, (extf .f32 (p.OB : FVec Ideal S8x4096x512 .bf16) bitsLt_bf16_f32)⟩] concatenates_S8x4096x512_S8x4096x512_S8x4096x1024_d2) (p.W : FVec Ideal S1024x1024 .f32)))
/-- The up projection, padded with a row of zeros on both sides. -/
def r40 (p : In) : FVec Ideal S8x4098x5632 .f32 :=
  pad S8x4098x5632 ![0, 1, 0] ![0, 1, 0] ![0, 0, 0] (Host.dotGeneral (φ₁ := .f32) (φ₂ := .f32) dot_S8x4096x1024_S1024x5632_S8x4096x5632_2_0_01_1_n_n none (addf (mulf (mulf (mulf (r19 p) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (r19 p) (r19 p)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (p.G : FVec Ideal S1024 .f32)))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 4096] (r0 p) slices_S8x6144_S8x1024_0_4096))))) (broadcastInDim S8x4096x1024 ![0, 1, 2] bcast_S8x1x1024_S8x4096x1024_0_1_2 (broadcastInDim S8x1x1024 ![0, 2] bcast_S8x1024_S8x1x1024_0_2 (extractStridedSlice S8x1024 ![0, 3072] (r0 p) slices_S8x6144_S8x1024_0_3072)))) (p.WU : FVec Ideal S1024x5632 .f32)) (sitofp .f32 (constantI S_ 32 0#32)) pads_S8x4096x5632_S8x4098x5632_000_110_000 h_S_
/-- The convolution. -/
def r63 (p : In) : FVec Ideal S8x4096x5632 .f32 :=
  addf (addf (addf (mulf (extractStridedSlice S8x4096x5632 ![0, 0, 0] (r40 p) slices_S8x4098x5632_S8x4096x5632_0_0_0) (broadcastInDim S8x4096x5632 ![0, 1, 2] bcast_S1x1x5632_S8x4096x5632_0_1_2 (broadcastInDim S1x1x5632 ![2] bcast_S5632_S1x1x5632_2 (shapeCast _ (extractStridedSlice S1x5632 ![0, 0] (p.CK : FVec Ideal S3x5632 .f32) slices_S3x5632_S1x5632_0_0) shapeCasts_S1x5632_S5632)))) (mulf (extractStridedSlice S8x4096x5632 ![0, 1, 0] (r40 p) slices_S8x4098x5632_S8x4096x5632_0_1_0) (broadcastInDim S8x4096x5632 ![0, 1, 2] bcast_S1x1x5632_S8x4096x5632_0_1_2 (broadcastInDim S1x1x5632 ![2] bcast_S5632_S1x1x5632_2 (shapeCast _ (extractStridedSlice S1x5632 ![1, 0] (p.CK : FVec Ideal S3x5632 .f32) slices_S3x5632_S1x5632_1_0) shapeCasts_S1x5632_S5632))))) (mulf (extractStridedSlice S8x4096x5632 ![0, 2, 0] (r40 p) slices_S8x4098x5632_S8x4096x5632_0_2_0) (broadcastInDim S8x4096x5632 ![0, 1, 2] bcast_S1x1x5632_S8x4096x5632_0_1_2 (broadcastInDim S1x1x5632 ![2] bcast_S5632_S1x1x5632_2 (shapeCast _ (extractStridedSlice S1x5632 ![2, 0] (p.CK : FVec Ideal S3x5632 .f32) slices_S3x5632_S1x5632_2_0) shapeCasts_S1x5632_S5632))))) (broadcastInDim S8x4096x5632 ![0, 1, 2] bcast_S1x1x5632_S8x4096x5632_0_1_2 (broadcastInDim S1x1x5632 ![2] bcast_S5632_S1x1x5632_2 (p.CB : FVec Ideal S5632 .f32)))
/-- The convolution's gate half. -/
def r64 (p : In) : FVec Ideal S8x4096x2816 .f32 :=
  extractStridedSlice S8x4096x2816 ![0, 0, 0] (r63 p) slices_S8x4096x5632_S8x4096x2816_0_0_0
/-- The layer's end. -/
def r71 (p : In) : FVec Ideal S8x4096x1024 .f32 :=
  addf (r19 p) (mulf (broadcastInDim S8x4096x1024 ![0, 1, 2] bcast_S8x1x1024_S8x4096x1024_0_1_2 (broadcastInDim S8x1x1024 ![0, 2] bcast_S8x1024_S8x1x1024_0_2 (extractStridedSlice S8x1024 ![0, 5120] (r0 p) slices_S8x6144_S8x1024_0_5120))) (Host.dotGeneral (φ₁ := .f32) (φ₂ := .f32) dot_S8x4096x2816_S2816x1024_S8x4096x1024_2_0_01_1_n_n none (mulf (mulf (r64 p) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (r64 p)))))) (extractStridedSlice S8x4096x2816 ![0, 0, 2816] (r63 p) slices_S8x4096x5632_S8x4096x2816_0_0_2816)) (p.WD : FVec Ideal S2816x1024 .f32)))

theorem r19_at (p : In) (j : S8x4096x1024.Idx) : r19 p j = mix p (j 0) (j 1) (j 2) := by
  unfold mix md proj; pointwise [r19, r0]

theorem ofInt_zero : (FloatOps.sitofp FTy.f32 (0#32 : BitVec 32) : Ideal .f32) = (0 : EReal) := by
  show (((0#32 : BitVec 32).toInt : ℝ) : EReal) = 0
  simp

theorem r40_raw (p : In) (j : S8x4098x5632.Idx) : r40 p j = if h : 1 ≤ (j 1).val ∧ (j 1).val - 1 < 4096 then
      ∑ x : Fin 1024, (rms (fun c => r19 p (ix3 (j 0) ⟨(j 1).val - 1, h.2⟩ c)) x * p.G (ix1 x) * (1 + md p (j 0) 4096 (by omega) x) + md p (j 0) 3072 (by omega) x) * p.WU (ix2 x (j 2))
    else (FloatOps.sitofp FTy.f32 (0#32 : BitVec 32) : Ideal .f32) := by
  unfold rms md; pointwise [r40, r0]
theorem r40_at (p : In) (j : S8x4098x5632.Idx) : r40 p j = upz p (j 0) (j 1).val (j 2) := by
  refine (r40_raw p j).trans ?_
  by_cases h : 1 ≤ (j 1).val ∧ (j 1).val - 1 < 4096
  · refine (dif_pos h).trans (Eq.trans (Finset.sum_congr rfl fun x _ => ?_) (upz_pos p (j 0) (j 1).val (j 2) h).symm)
    have e : (fun c => r19 p (ix3 (j 0) ⟨(j 1).val - 1, h.2⟩ c)) = mix p (j 0) ⟨(j 1).val - 1, h.2⟩ := funext fun c => r19_at p _
    rw [e]; rfl
  · exact (dif_neg h).trans (ofInt_zero.trans (upz_neg p (j 0) (j 1).val (j 2) h).symm)

theorem r63_raw (p : In) (j : S8x4096x5632.Idx) : r63 p j = r40 p (ix3 (j 0) ⟨(j 1).val, by have := (j 1).2; simp at this; omega⟩ (j 2)) * p.CK (ix2 0 (j 2))
     + r40 p (ix3 (j 0) ⟨1 + (j 1).val, by have := (j 1).2; simp at this; omega⟩ (j 2)) * p.CK (ix2 1 (j 2))
     + r40 p (ix3 (j 0) ⟨2 + (j 1).val, by have := (j 1).2; simp at this; omega⟩ (j 2)) * p.CK (ix2 2 (j 2)) + p.CB (ix1 (j 2)) := by
  pointwise [r63]
theorem r63_at (p : In) (j : S8x4096x5632.Idx) : r63 p j = conv p (j 0) (j 1).val (j 2) :=
  (r63_raw p j).trans (by rw [r40_at, r40_at, r40_at]; rfl)

theorem r71_raw (p : In) (j : S8x4096x1024.Idx) : r71 p j = r19 p j + md p (j 0) 5120 (by omega) (j 2)
    * ∑ x : Fin 2816, r63 p (ix3 (j 0) (j 1) ⟨x.val, by omega⟩) * Ideal.div 1 (1 + Ideal.exp (-r63 p (ix3 (j 0) (j 1) ⟨x.val, by omega⟩)))
      * r63 p (ix3 (j 0) (j 1) ⟨2816 + x.val, by omega⟩) * p.WD (ix2 x (j 2)) := by
  unfold md; pointwise [r71, r64, r0]
/-- The plain reference is the mathematics. -/
theorem r71_at (p : In) (j : S8x4096x1024.Idx) : r71 p j = out p (j 0) (j 1) (j 2) := by
  refine (r71_raw p j).trans (congrArg₂ (· + ·) (r19_at p j) ?_)
  refine (congrArg (_ * ·) (Finset.sum_congr rfl fun x _ => ?_))
  rw [r63_at, r63_at]; rfl

/-- The layer's end, normalised once more. -/
def r84 (p : In) (FG : A1 1024) : FVec Ideal S8x4096x1024 .f32 :=
  mulf (mulf (r71 p) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (r71 p) (r71 p)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (FG : FVec Ideal S1024 .f32)))
theorem r84_raw (p : In) (FG : A1 1024) (j : S8x4096x1024.Idx) : r84 p FG j = rms (fun c => r71 p (ix3 (j 0) (j 1) c)) (j 2) * FG (ix1 (j 2)) := by
  unfold rms; pointwise [r84]
/-- The normalised reference is the mathematics. -/
theorem r84_at (p : In) (FG : A1 1024) (j : S8x4096x1024.Idx) : r84 p FG j = fin p FG (j 0) (j 1) (j 2) := by
  refine (r84_raw p FG j).trans ?_
  rw [show (fun c => r71 p (ix3 (j 0) (j 1) c)) = out p (j 0) (j 1) from funext fun c => r71_at p _]; rfl

end Cert.ReferenceIdeal.Hand
end
-- ==== Proof.Claims.lean ====
module

public import proofs.«01_k».proof.Defs
public import proofs.«01_k».proof.Proof.KArray
public import proofs.«01_k».proof.Proof.RefValue
@[expose] public section

set_option maxRecDepth 16384

/-
  The algebraic claim about the whole call with the last norm, and its reference's frame.
-/
noncomputable section
open Idealize.ShloMosaic Idealize.ShloMosaic.TcCoe Idealize.SL.Sem
open Idealize.ShloMosaic.StableHlo
namespace Cert.Proof.Normed
open Cert.LayerEnd

variable (m : (ℓ : Loc Cert.ReferenceIdeal.nD Cert.ReferenceIdeal.τ Cert.ReferenceIdeal.sig) → Buf (Elt Ideal) ℓ)

/-- The reference's arguments as device `c` holds them. -/
def rargs (c : Dev Cert.ReferenceIdeal.nD) : In where
  X := m ((c : Thread Cert.ReferenceIdeal.nD Cert.ReferenceIdeal.τ).loc Cert.ReferenceIdeal.main_arg0)
  OA := m ((c : Thread Cert.ReferenceIdeal.nD Cert.ReferenceIdeal.τ).loc Cert.ReferenceIdeal.main_arg1)
  OB := m ((c : Thread Cert.ReferenceIdeal.nD Cert.ReferenceIdeal.τ).loc Cert.ReferenceIdeal.main_arg2)
  W := m ((c : Thread Cert.ReferenceIdeal.nD Cert.ReferenceIdeal.τ).loc Cert.ReferenceIdeal.main_arg3)
  G := m ((c : Thread Cert.ReferenceIdeal.nD Cert.ReferenceIdeal.τ).loc Cert.ReferenceIdeal.main_arg4)
  M := m ((c : Thread Cert.ReferenceIdeal.nD Cert.ReferenceIdeal.τ).loc Cert.ReferenceIdeal.main_arg5)
  WU := m ((c : Thread Cert.ReferenceIdeal.nD Cert.ReferenceIdeal.τ).loc Cert.ReferenceIdeal.main_arg6)
  CK := m ((c : Thread Cert.ReferenceIdeal.nD Cert.ReferenceIdeal.τ).loc Cert.ReferenceIdeal.main_arg7)
  CB := m ((c : Thread Cert.ReferenceIdeal.nD Cert.ReferenceIdeal.τ).loc Cert.ReferenceIdeal.main_arg8)
  WD := m ((c : Thread Cert.ReferenceIdeal.nD Cert.ReferenceIdeal.τ).loc Cert.ReferenceIdeal.main_arg9)

/-- The reference runs to its end and leaves its arguments and the counters as they were. -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The reference's result, as the run composes it, is the mathematics of its arguments. -/
theorem ref_eq (c : Dev Cert.ReferenceIdeal.nD) (v) (hv : v = Cert.ReferenceIdeal.Hand.r84 (rargs m c) (m ((c : Thread Cert.ReferenceIdeal.nD Cert.ReferenceIdeal.τ).loc Cert.ReferenceIdeal.main_arg10))) :
    v = fun j : (⟨3, ![8, 4096, 1024]⟩ : Shape).Idx => fin (rargs m c) (m ((c : Thread Cert.ReferenceIdeal.nD Cert.ReferenceIdeal.τ).loc Cert.ReferenceIdeal.main_arg10)) (j 0) (j 1) (j 2) :=
  hv.trans (funext fun j => Cert.ReferenceIdeal.Hand.r84_at _ _ j)

/-- The kernel and its reference leave the same array from the same arguments. -/
theorem algebraic : Cert.algebraic_KernelIdeal_ReferenceIdeal := by
  intro m g m' g' _ hagree
  have ea (c : Dev Cert.KernelIdeal.nD) : rargs m' c = Cert.KernelIdeal.Hand.args m c := by
    obtain ⟨h0, h1, h2, h3, h4, h5, h6, h7, h8, h9, -⟩ := hagree c
    unfold rargs Cert.KernelIdeal.Hand.args
    rw [h0, h1, h2, h3, h4, h5, h6, h7, h8, h9]
  refine ⟨fun c => Cert.KernelIdeal.Hand.res m c, ?_, ?_⟩
  · exact (θ_run Cert.KernelIdeal.defs _ _).mono (fun _ h c => ⟨(h c).1.trans (Cert.KernelIdeal.Hand.array_eq m c), (h c).2⟩)
      (Cert.KernelIdeal.Value.run_blocks m g)
  · refine (θ_run Cert.ReferenceIdeal.defs _ _).mono (fun _ h c => ⟨(h c).1.trans ?_, (h c).2⟩) (Cert.ReferenceIdeal.Value.run (F := Ideal) m' g')
    refine (ref_eq m' c _ rfl).trans ?_
    rw [ea c, (hagree c).2.2.2.2.2.2.2.2.2.2]; rfl

end Cert.Proof.Normed
end
-- ==== Proof.K2Body.lean ====
module

public import proofs.«01_k».proof.Proof.Gen.Kernel2Ideal.Value
public import proofs.«01_k».proof.Proof.Math
public import Idealize.ShloMosaic.Lib.Pipeline.ValueKit
public import Idealize.ShloMosaic.Lib.Pipeline.ReadBack
@[expose] public section

set_option maxRecDepth 16384

/-
  The kernel body at one grid point, as a function of the blocks it reads: tile `i` (512 rows) of batch entry `b`. The
  hypotheses on the blocks say which elements of the arguments they hold; `K2Windows` proves them.
-/
noncomputable section
open Idealize.ShloMosaic Idealize.ShloMosaic.TcCoe Idealize.SL.Sem
open Idealize.ShloMosaic.StableHlo
namespace Cert.Kernel2Ideal.Hand
open Cert.Kernel2Ideal Cert.Kernel2Ideal.Gen Cert.LayerEnd

/-! ## Single payloads, read at one element -/

theorem pay2_at (v : Vec Ideal S1x16x512 .bf16) (x : S16x512.Idx) : k0_pay2 v x = v (ix3 0 (x 0) (x 1)) := by pointwise [k0_pay2]
theorem pay3_at (v : Vec Ideal S1x16x512 .bf16) (x : S16x512.Idx) : k0_pay3 v x = v (ix3 0 (x 0) (x 1)) := by pointwise [k0_pay3]
theorem pay4_at (v : Vec Ideal S1x512x512 .bf16) (x : S512x512.Idx) : k0_pay4 v x = v (ix3 0 (x 0) (x 1)) := by pointwise [k0_pay4]
theorem pay5_at (v : Vec Ideal S1x512x512 .bf16) (x : S512x512.Idx) : k0_pay5 v x = v (ix3 0 (x 0) (x 1)) := by pointwise [k0_pay5]
theorem pay6_at (v : Vec Ideal S1x16x512 .bf16) (x : S16x512.Idx) : k0_pay6 v x = v (ix3 0 (x 0) (x 1)) := by pointwise [k0_pay6]
theorem pay7_at (v : Vec Ideal S1x16x512 .bf16) (x : S16x512.Idx) : k0_pay7 v x = v (ix3 0 (x 0) (x 1)) := by pointwise [k0_pay7]
theorem pay8_at (v30 : Vec Ideal S1x1x1024 .f32) (v32 : Vec Ideal S544x1024 .bf16) (v33 : Vec Ideal S1024x1024 .bf16) (j : S544x1024.Idx) :
    k0_pay8 v30 v32 v33 j = v30 (ix3 0 0 (j 1)) * ∑ k, v32 (ix2 (j 0) k) * v33 (ix2 k (j 1)) := by pointwise [k0_pay8]
theorem pay9_at (v30 : Vec Ideal S1x1x1024 .f32) (v32 : Vec Ideal S544x1024 .bf16) (v33 : Vec Ideal S1024x1024 .bf16) (v38 : Vec Ideal S1x512x1024 .f32)
    (j : S512x1024.Idx) : k0_pay9 v30 v32 v33 v38 j = v38 (ix3 0 (j 0) (j 1)) + k0_pay8 v30 v32 v33 (ix2 ⟨16 + (j 0).val, by have := (j 0).2; simp at this; omega⟩ (j 1)) := by
  pointwise [k0_pay9, k0_pay8]

/-- The normalised, scaled and shifted row `f`, at channel `c`, with the gain, scale and shift rows as the kernel holds them. -/
def modk (f : Fin 1024 → EReal) (v43 v45 v47 : FVec Ideal S1x1024 .f32) (c : Fin 1024) : EReal :=
  rms f c * v43 (ix2 0 c) * (1 + v47 (ix2 0 c)) + v45 (ix2 0 c)

theorem pay16_at (v37 : FVec Ideal S544x1024 .f32) (v43 v45 v47 : FVec Ideal S1x1024 .f32) (v49 : Ideal .f32) (v53 : FVec Ideal S16x1024 .f32) (j : S16x1024.Idx) :
    k0_pay16 v37 v43 v45 v47 v49 v53 j = modk (fun c => v53 (ix2 (j 0) c) + v37 (ix2 ⟨(j 0).val, by have := (j 0).2; simp at this; omega⟩ c)) v43 v45 v47 (j 1) * v49 := by
  unfold modk rms; pointwise [k0_pay16]
theorem pay17_at (v41 : FVec Ideal S512x1024 .f32) (v43 v45 v47 : FVec Ideal S1x1024 .f32) (j : S512x1024.Idx) :
    k0_pay18 (k0_pay17 v41 v43 v45 v47) j = modk (fun c => v41 (ix2 (j 0) c)) v43 v45 v47 (j 1) := by
  unfold modk rms; pointwise [k0_pay18, k0_pay17]
theorem pay19_at (v37 : FVec Ideal S544x1024 .f32) (v43 v45 v47 : FVec Ideal S1x1024 .f32) (v51 : Ideal .f32) (v102 : Vec Ideal S1x16x1024 .f32) (j : S16x1024.Idx) :
    k0_pay19 v37 v43 v45 v47 v51 v102 j = modk (fun c => v102 (ix3 0 (j 0) c) + v37 (ix2 ⟨528 + (j 0).val, by have := (j 0).2; simp at this; omega⟩ c)) v43 v45 v47 (j 1) * v51 := by
  unfold modk rms; pointwise [k0_pay19]
theorem pay15_at (v : Vec Ideal S1x16x1024 .f32) (x : S16x1024.Idx) : k0_pay15 v x = v (ix3 0 (x 0) (x 1)) := by pointwise [k0_pay15]
theorem pay10_at (v : Vec Ideal S1x1024 .f32) (k : Fin 1024) : k0_pay10 v (ix2 0 k) = v (ix2 0 k) := by pointwise [k0_pay10]
theorem pay11_at (v : Vec Ideal S1x1x1024 .f32) (k : Fin 1024) : k0_pay11 v (ix2 0 k) = v (ix3 0 0 k) := by pointwise [k0_pay11]
theorem pay12_at (v : Vec Ideal S1x1x1024 .f32) (k : Fin 1024) : k0_pay12 v (ix2 0 k) = v (ix3 0 0 k) := by pointwise [k0_pay12]
theorem pay13_at (i : Fin 8) : (k0_pay13 (BitVec.ofNat 32 i.val) : Ideal .f32) = if 0 < i.val then 1 else 0 := by
  pointwise [k0_pay13]; fin_cases i <;> simp [Scalar.select, Scalar.cmpi] <;> first | exact if_pos (by decide) | exact if_neg (by decide)
theorem pay14_at (i : Fin 8) : (k0_pay14 (BitVec.ofNat 32 i.val) : Ideal .f32) = if i.val < 7 then 1 else 0 := by
  pointwise [k0_pay14]; fin_cases i <;> simp [Scalar.select, Scalar.cmpi] <;> first | exact if_pos (by decide) | exact if_neg (by decide)

/-- The up projection of staged row `q`. -/
def hu (v130 : Vec Ideal S544x1024 .bf16) (v131 : Vec Ideal S1024x5632 .bf16) (q : Fin 544) (k : Fin 5632) : EReal :=
  ∑ x : Fin 1024, v130 (ix2 q x) * v131 (ix2 x k)
theorem pay21_at (v130 : Vec Ideal S544x1024 .bf16) (v131 : Vec Ideal S1024x5632 .bf16) (j : S544x2816.Idx) :
    k0_pay21 v130 v131 j = hu v130 v131 (j 0) ⟨(j 1).val, by have := (j 1).2; simp at this; omega⟩ := by
  unfold hu; pointwise [k0_pay21, k0_pay20]
theorem pay22_at (v130 : Vec Ideal S544x1024 .bf16) (v131 : Vec Ideal S1024x5632 .bf16) (j : S544x2816.Idx) :
    k0_pay22 v130 v131 j = hu v130 v131 (j 0) ⟨2816 + (j 1).val, by have := (j 1).2; simp at this; omega⟩ := by
  unfold hu; pointwise [k0_pay22, k0_pay20]
theorem pay24_at (v130 : Vec Ideal S544x1024 .bf16) (v131 : Vec Ideal S1024x5632 .bf16) (j : S512x2816.Idx) :
    k0_pay24 v130 v131 j = hu v130 v131 ⟨(16 + (j 0).val + 544 - 1) % 544, Nat.mod_lt _ (by omega)⟩ ⟨(j 1).val, by have := (j 1).2; simp at this; omega⟩ := by
  unfold hu; pointwise [k0_pay24, k0_pay21, k0_pay20]
theorem pay25_at (v130 : Vec Ideal S544x1024 .bf16) (v131 : Vec Ideal S1024x5632 .bf16) (j : S544x2816.Idx) :
    k0_pay25 v130 v131 j = hu v130 v131 ⟨((j 0).val + 544 - 543) % 544, Nat.mod_lt _ (by omega)⟩ ⟨(j 1).val, by have := (j 1).2; simp at this; omega⟩ := by
  unfold hu; pointwise [k0_pay25, k0_pay21, k0_pay20]
theorem pay23_at (v : Vec Ideal S8x2816 .f32) (x : S8x2816.Idx) : k0_pay23 v x = v x := by pointwise [k0_pay23]

/-! ## The two staged arrays -/

variable (p : In) (b i : Fin 8)

/-- The halves' columns and the rows staged side by side: `544 x 1024`. -/
theorem om_at (x3 x6 x5 x8 : Vec Ideal S1x16x512 .bf16) (x4 x7 : Vec Ideal S1x512x512 .bf16)
    (h3 : ∀ (r : Fin 16) (c : Fin 512) (q : Fin 544), q.val = r.val → x3 (ix3 0 r c) = p.OA (ix3 b (row i q) c))
    (h4 : ∀ (r : Fin 512) (c : Fin 512) (q : Fin 544), q.val = 16 + r.val → x4 (ix3 0 r c) = p.OA (ix3 b (row i q) c))
    (h5 : ∀ (r : Fin 16) (c : Fin 512) (q : Fin 544), q.val = 528 + r.val → x5 (ix3 0 r c) = p.OA (ix3 b (row i q) c))
    (h6 : ∀ (r : Fin 16) (c : Fin 512) (q : Fin 544), q.val = r.val → x6 (ix3 0 r c) = p.OB (ix3 b (row i q) c))
    (h7 : ∀ (r : Fin 512) (c : Fin 512) (q : Fin 544), q.val = 16 + r.val → x7 (ix3 0 r c) = p.OB (ix3 b (row i q) c))
    (h8 : ∀ (r : Fin 16) (c : Fin 512) (q : Fin 544), q.val = 528 + r.val → x8 (ix3 0 r c) = p.OB (ix3 b (row i q) c)) :
    View.readCov (Val := Elt Ideal) (View.whole cc0_scratch1) [⟨Rect.unit ![528,512] ![16,512] inb_S544x1024_S16x512_528_512, k0_pay7 x8⟩,
      ⟨Rect.unit ![528,0] ![16,512] inb_S544x1024_S16x512_528_0, k0_pay6 x5⟩, ⟨Rect.unit ![16,512] ![512,512] inb_S544x1024_S512x512_16_512, k0_pay5 x7⟩,
      ⟨Rect.unit ![16,0] ![512,512] inb_S544x1024_S512x512_16_0, k0_pay4 x4⟩, ⟨Rect.unit ![0,512] ![16,512] inb_S544x1024_S16x512_0_512, k0_pay3 x6⟩,
      ⟨Rect.unit ![0,0] ![16,512] inb_S544x1024_S16x512_0_0, k0_pay2 x3⟩] (Rect.unit ![0,0] ![544,1024] inb_S544x1024_S544x1024_0_0).toLoadRect
    = (fun y => cat p b (row i (y 0)) (y 1) : Vec Ideal S544x1024 .bf16) := by
  rw [View.readCov_eq_canon']
  funext y
  have hy : (Rect.unit ![0,0] ![544,1024] inb_S544x1024_S544x1024_0_0).toLoadRect.idx y = y :=
    funext fun a => Fin.ext ((Rect.idx_unit_val _ _ _ _ a).trans (by fin_cases a <;> simp))
  rw [hy]
  revert y
  show ∀ y : S544x1024.Idx, _
  intro y hy
  have y0 : (y 0).val < 544 := (y 0).2
  have y1 : (y 1).val < 1024 := (y 1).2
  canon_tiles x h using (by
    by_cases c : (y 1).val < 512 <;> by_cases r : (y 0).val < 16
    · exact ⟨_, .tail _ (.tail _ (.tail _ (.tail _ (.tail _ (.head _))))), mem2 inb_S544x1024_S16x512_0_0 y (by omega) (by omega)⟩
    · by_cases r' : (y 0).val < 528
      · exact ⟨_, .tail _ (.tail _ (.tail _ (.head _))), mem2 inb_S544x1024_S512x512_16_0 y (by omega) (by omega)⟩
      · exact ⟨_, .tail _ (.head _), mem2 inb_S544x1024_S16x512_528_0 y (by omega) (by omega)⟩
    · exact ⟨_, .tail _ (.tail _ (.tail _ (.tail _ (.head _)))), mem2 inb_S544x1024_S16x512_0_512 y (by omega) (by omega)⟩
    · by_cases r' : (y 0).val < 528
      · exact ⟨_, .tail _ (.tail _ (.head _)), mem2 inb_S544x1024_S512x512_16_512 y (by omega) (by omega)⟩
      · exact ⟨_, .head _, mem2 inb_S544x1024_S16x512_528_512 y (by omega) (by omega)⟩)
  · exact (pay7_at _ _).trans ((h8 (x 0) (x 1) (y 0) h0).trans (cat_hi p b _ (y 1) (x 1) h1).symm)
  · exact (pay6_at _ _).trans ((h5 (x 0) (x 1) (y 0) h0).trans (cat_lo p b _ (y 1) (x 1) h1).symm)
  · exact (pay5_at _ _).trans ((h7 (x 0) (x 1) (y 0) h0).trans (cat_hi p b _ (y 1) (x 1) h1).symm)
  · exact (pay4_at _ _).trans ((h4 (x 0) (x 1) (y 0) h0).trans (cat_lo p b _ (y 1) (x 1) h1).symm)
  · exact (pay3_at _ _).trans ((h6 (x 0) (x 1) (y 0) h0).trans (cat_hi p b _ (y 1) (x 1) h1).symm)
  · exact (pay2_at _ _).trans ((h3 (x 0) (x 1) (y 0) h0).trans (cat_lo p b _ (y 1) (x 1) h1).symm)

/-- The staged columns, as an array. -/
def omv : Vec Ideal S544x1024 .bf16 := fun y => cat p b (row i (y 0)) (y 1)
/-- The staged normalised rows, as an array. -/
def hv : Vec Ideal S544x1024 .bf16 := fun y => modn p b (row i (y 0)) (y 1) * keep i (y 0)

/-- The output projection of staged row `q`, gated. -/
theorem pay8_eq (x10 : Vec Ideal S1x1x1024 .f32) (x9 : Vec Ideal S1024x1024 .bf16)
    (h9 : ∀ k c : Fin 1024, x9 (ix2 k c) = p.W (ix2 k c)) (h10 : ∀ c : Fin 1024, x10 (ix3 0 0 c) = md p b 2048 (by omega) c)
    (q : Fin 544) (c : Fin 1024) : k0_pay8 x10 (omv p b i) x9 (ix2 q c) = md p b 2048 (by omega) c * proj p b (row i q) c := by
  refine (pay8_at _ _ _ _).trans (congrArg₂ (· * ·) (h10 c) (Eq.trans ?_ (cat_sum p b (row i q) c)))
  exact Finset.sum_congr rfl fun k _ => congrArg (cat p b (row i q) k * ·) (h9 k c)

/-- The kernel's modulated norm of the mixed row is the mathematics'. -/
theorem modk_eq (f : Fin 1024 → EReal) (r : Fin 4096) (v43 v45 v47 : FVec Ideal S1x1024 .f32) (c : Fin 1024) (hf : f = mix p b r)
    (h43 : v43 (ix2 0 c) = p.G (ix1 c)) (h45 : v45 (ix2 0 c) = md p b 3072 (by omega) c) (h47 : v47 (ix2 0 c) = md p b 4096 (by omega) c) :
    modk f v43 v45 v47 c = modn p b r c := by
  rw [modk, modn, hf, h43, h45, h47]

/-- The normalised rows staged: `544 x 1024`, zero where a row stands outside the array. -/
theorem h_at (n : ℕ) (hn : n = i.val) (OM : Vec Ideal S544x1024 .bf16) (hOM : OM = omv p b i) (x0 x2 : Vec Ideal S1x16x1024 .f32)
    (x1 : Vec Ideal S1x512x1024 .f32) (x9 : Vec Ideal S1024x1024 .bf16) (x10 x12 x13 : Vec Ideal S1x1x1024 .f32) (x11 : Vec Ideal S1x1024 .f32)
    (g0 : ∀ (r : Fin 16) (c : Fin 1024) (q : Fin 544), q.val = r.val → x0 (ix3 0 r c) = p.X (ix3 b (row i q) c))
    (g1 : ∀ (r : Fin 512) (c : Fin 1024) (q : Fin 544), q.val = 16 + r.val → x1 (ix3 0 r c) = p.X (ix3 b (row i q) c))
    (g2 : ∀ (r : Fin 16) (c : Fin 1024) (q : Fin 544), q.val = 528 + r.val → x2 (ix3 0 r c) = p.X (ix3 b (row i q) c))
    (h9 : ∀ k c : Fin 1024, x9 (ix2 k c) = p.W (ix2 k c)) (h10 : ∀ c : Fin 1024, x10 (ix3 0 0 c) = md p b 2048 (by omega) c)
    (h11 : ∀ c : Fin 1024, x11 (ix2 0 c) = p.G (ix1 c)) (h12 : ∀ c : Fin 1024, x12 (ix3 0 0 c) = md p b 3072 (by omega) c)
    (h13 : ∀ c : Fin 1024, x13 (ix3 0 0 c) = md p b 4096 (by omega) c) :
    View.readCov (Val := Elt Ideal) (View.whole cc0_scratch0) [⟨Rect.unit ![528,0] ![16,1024] inb_S544x1024_S16x1024_528_0, k0_pay19 (k0_pay8 x10 OM x9) (k0_pay10 x11) (k0_pay11 x12) (k0_pay12 x13) (k0_pay14 (BitVec.ofNat 32 n)) x2⟩,
      ⟨Rect.unit ![16,0] ![512,1024] inb_S544x1024_S512x1024_16_0, k0_pay18 (k0_pay17 (k0_pay9 x10 OM x9 x1) (k0_pay10 x11) (k0_pay11 x12) (k0_pay12 x13))⟩,
      ⟨Rect.unit ![0,0] ![16,1024] inb_S544x1024_S16x1024_0_0, k0_pay16 (k0_pay8 x10 OM x9) (k0_pay10 x11) (k0_pay11 x12) (k0_pay12 x13) (k0_pay13 (BitVec.ofNat 32 n)) (k0_pay15 x0)⟩]
      (Rect.unit ![0,0] ![544,1024] inb_S544x1024_S544x1024_0_0).toLoadRect
    = hv p b i := by
  subst hOM hn
  have mixq : ∀ (q : Fin 544), (fun c => p.X (ix3 b (row i q) c) + k0_pay8 x10 (omv p b i) x9 (ix2 q c)) = mix p b (row i q) :=
    fun q => funext fun c => by rw [pay8_eq p b i x10 x9 h9 h10, mix]
  have rowq : ∀ (q : Fin 544) (f : Fin 1024 → EReal) (c : Fin 1024) (s : EReal), f = mix p b (row i q) → s = keep i q →
      modk f (k0_pay10 x11) (k0_pay11 x12) (k0_pay12 x13) c * s = hv p b i (ix2 q c) := fun q f c s hf hs => by
    rw [modk_eq p b f (row i q) _ _ _ c hf ((pay10_at _ _).trans (h11 c)) ((pay11_at _ _).trans (h12 c)) ((pay12_at _ _).trans (h13 c)), hs]; rfl
  rw [View.readCov_eq_canon']
  funext y
  have hy : (Rect.unit ![0,0] ![544,1024] inb_S544x1024_S544x1024_0_0).toLoadRect.idx y = y :=
    funext fun a => Fin.ext ((Rect.idx_unit_val _ _ _ _ a).trans (by fin_cases a <;> simp))
  rw [hy]
  revert y
  show ∀ y : S544x1024.Idx, _
  intro y hy
  have y0 : (y 0).val < 544 := (y 0).2
  have y1 : (y 1).val < 1024 := (y 1).2
  have ey : y = ix2 (y 0) (y 1) := by blk_ext
  canon_tiles x h using (by
    by_cases r : (y 0).val < 16
    · exact ⟨_, .tail _ (.tail _ (.head _)), mem2 inb_S544x1024_S16x1024_0_0 y (by omega) (by omega)⟩
    · by_cases r' : (y 0).val < 528
      · exact ⟨_, .tail _ (.head _), mem2 inb_S544x1024_S512x1024_16_0 y (by omega) (by omega)⟩
      · exact ⟨_, .head _, mem2 inb_S544x1024_S16x1024_528_0 y (by omega) (by omega)⟩)
  · have e1 : x 1 = y 1 := Fin.ext h1.symm
    have e0 : (⟨528 + (x 0).val, by omega⟩ : Fin 544) = y 0 := Fin.ext h0.symm
    refine (pay19_at _ _ _ _ _ _ _).trans ((rowq (y 0) _ (x 1) _ ?_ ?_).trans (congrArg (hv p b i) ((congrArg (ix2 (y 0)) e1).trans ey.symm)))
    · exact Eq.trans (funext fun c => congrArg₂ (· + ·) (g2 (x 0) c (y 0) h0) (congrArg (fun q => k0_pay8 x10 (omv p b i) x9 (ix2 q c)) e0)) (mixq (y 0))
    · exact (pay14_at i).trans (keep_hi i (y 0) (by omega)).symm
  · have e1 : x 1 = y 1 := Fin.ext h1.symm
    have e0 : (⟨16 + (x 0).val, by omega⟩ : Fin 544) = y 0 := Fin.ext h0.symm
    refine (pay17_at _ _ _ _ _).trans ((mul_one _).symm.trans ((rowq (y 0) _ (x 1) 1 ?_ ?_).trans (congrArg (hv p b i) ((congrArg (ix2 (y 0)) e1).trans ey.symm))))
    · exact Eq.trans (funext fun c => (pay9_at _ _ _ _ _).trans
        (congrArg₂ (· + ·) (g1 (x 0) c (y 0) h0) (congrArg (fun q => k0_pay8 x10 (omv p b i) x9 (ix2 q c)) e0))) (mixq (y 0))
    · exact (keep_mid i (y 0) (by omega) (by omega)).symm
  · have e1 : x 1 = y 1 := Fin.ext h1.symm
    have e0 : (⟨(x 0).val, by omega⟩ : Fin 544) = y 0 := Fin.ext h0.symm
    refine (pay16_at _ _ _ _ _ _ _).trans ((rowq (y 0) _ (x 1) _ ?_ ?_).trans (congrArg (hv p b i) ((congrArg (ix2 (y 0)) e1).trans ey.symm)))
    · exact Eq.trans (funext fun c => congrArg₂ (· + ·) ((pay15_at _ _).trans (g0 (x 0) c (y 0) h0)) (congrArg (fun q => k0_pay8 x10 (omv p b i) x9 (ix2 q c)) e0)) (mixq (y 0))
    · exact (pay13_at i).trans (keep_lo i (y 0) (by omega)).symm

/-! ## The FFN -/

/-- The convolution of the gate half at row `r` of the tile, channel `k`, as the kernel computes it. -/
def cg (v134 : FVec Ideal S544x2816 .f32) (v137 : FVec Ideal S8x2816 .f32) (v139 : FVec Ideal S512x2816 .f32) (v140 : FVec Ideal S544x2816 .f32)
    (r : Fin 512) (k : Fin 2816) : EReal :=
  v139 (ix2 r k) * v137 (ix2 0 k) + v134 (ix2 ⟨16 + r.val, by omega⟩ k) * v137 (ix2 1 k) + v140 (ix2 ⟨16 + r.val, by omega⟩ k) * v137 (ix2 2 k) + v137 (ix2 3 k)
/-- The convolution of the value half. -/
def cv (v135 : FVec Ideal S544x2816 .f32) (v157 : Vec Ideal S8x2816 .f32) (r : Fin 512) (k : Fin 2816) : EReal :=
  v135 (ix2 ⟨(16 + r.val + 544 - 1) % 544, Nat.mod_lt _ (by omega)⟩ k) * v157 (ix2 0 k) + v135 (ix2 ⟨16 + r.val, by omega⟩ k) * v157 (ix2 1 k)
    + v135 (ix2 ⟨(16 + r.val + 544 - 543) % 544, Nat.mod_lt _ (by omega)⟩ k) * v157 (ix2 2 k) + v157 (ix2 3 k)

theorem pay26_at (v134 v135 : FVec Ideal S544x2816 .f32) (v137 : FVec Ideal S8x2816 .f32) (v139 : FVec Ideal S512x2816 .f32) (v140 : FVec Ideal S544x2816 .f32)
    (v157 : Vec Ideal S8x2816 .f32) (v188 : Vec Ideal S2816x1024 .bf16) (j : S512x1024.Idx) :
    k0_pay26 v134 v135 v137 v139 v140 v157 v188 j
      = ∑ x : Fin 2816, cg v134 v137 v139 v140 (j 0) x * Ideal.div 1 (1 + Ideal.exp (0 - cg v134 v137 v139 v140 (j 0) x)) * cv v135 v157 (j 0) x * v188 (ix2 x (j 1)) := by
  unfold cg cv; pointwise [k0_pay26]

/-- The up projection of staged row `q` is the padded one's row. -/
theorem hu_eq (x15 : Vec Ideal S1024x5632 .bf16) (h15 : ∀ (c : Fin 1024) (k : Fin 5632), x15 (ix2 c k) = p.WU (ix2 c k))
    (r d : ℕ) (hr : r < 512) (hd : d < 3) (k : Fin 5632) (q : Fin 544) (hq : q.val = 15 + r + d) :
    hu (hv p b i) x15 q k = upz p b (d + (i.val * 512 + r)) k := by
  rw [← keep_up p b i r d hr hd k q hq, ← up_keep]
  exact Finset.sum_congr rfl fun c _ => congrArg (hv p b i (ix2 q c) * ·) (h15 c k)

/-- The left half of the taps' array, and the right half. -/
theorem ld_lo (x16 : Vec Ideal S8x5632 .f32) (a : Fin 8) (k : Fin 2816) :
    View.ld x16 (Rect.unit ![0,0] ![8,2816] inb_S8x5632_S8x2816_0_0) (ix2 a k) = x16 (ix2 a ⟨k.val, by omega⟩) :=
  View.ld_unit_apply_of _ _ _ _ _ _ (Fin.forall_fin_two.2 ⟨(Nat.zero_add _).symm, (Nat.zero_add _).symm⟩)
theorem ld_hi (x16 : Vec Ideal S8x5632 .f32) (a : Fin 8) (k : Fin 2816) :
    View.ld x16 (Rect.unit ![0,2816] ![8,2816] inb_S8x5632_S8x2816_0_2816) (ix2 a k) = x16 (ix2 a ⟨2816 + k.val, by omega⟩) :=
  View.ld_unit_apply_of _ _ _ _ _ _ (Fin.forall_fin_two.2 ⟨(Nat.zero_add _).symm, rfl⟩)

theorem cg_eq (x15 : Vec Ideal S1024x5632 .bf16) (h15 : ∀ (c : Fin 1024) (k : Fin 5632), x15 (ix2 c k) = p.WU (ix2 c k))
    (x16 : Vec Ideal S8x5632 .f32) (h16 : ∀ k : Fin 5632, x16 (ix2 0 k) = p.CK (ix2 0 k) ∧ x16 (ix2 1 k) = p.CK (ix2 1 k) ∧ x16 (ix2 2 k) = p.CK (ix2 2 k) ∧ x16 (ix2 3 k) = p.CB (ix1 k))
    (r : Fin 512) (k : Fin 2816) :
    cg (k0_pay21 (hv p b i) x15) (k0_pay23 (View.ld x16 (Rect.unit ![0,0] ![8,2816] inb_S8x5632_S8x2816_0_0))) (k0_pay24 (hv p b i) x15) (k0_pay25 (hv p b i) x15) r k
      = conv p b (i.val * 512 + r.val) ⟨k.val, by omega⟩ := by
  obtain ⟨a0, a1, a2, a3⟩ := h16 ⟨k.val, by omega⟩
  have e0 := (pay24_at (hv p b i) x15 (ix2 r k)).trans (hu_eq p b i x15 h15 r.val 0 r.2 (by omega) ⟨k.val, by omega⟩ _ (by show (16 + r.val + 544 - 1) % 544 = _; omega))
  have e1 := (pay21_at (hv p b i) x15 (ix2 ⟨16 + r.val, by omega⟩ k)).trans (hu_eq p b i x15 h15 r.val 1 r.2 (by omega) ⟨k.val, by omega⟩ _ (by show 16 + r.val = _; omega))
  have e2 := (pay25_at (hv p b i) x15 (ix2 ⟨16 + r.val, by omega⟩ k)).trans (hu_eq p b i x15 h15 r.val 2 r.2 (by omega) ⟨k.val, by omega⟩ _ (by show (16 + r.val + 544 - 543) % 544 = _; omega))
  rw [cg, conv, e0, e1, e2, pay23_at, pay23_at, pay23_at, pay23_at, ld_lo, ld_lo, ld_lo, ld_lo, a0, a1, a2, a3, Nat.zero_add]

theorem cv_eq (x15 : Vec Ideal S1024x5632 .bf16) (h15 : ∀ (c : Fin 1024) (k : Fin 5632), x15 (ix2 c k) = p.WU (ix2 c k))
    (x16 : Vec Ideal S8x5632 .f32) (h16 : ∀ k : Fin 5632, x16 (ix2 0 k) = p.CK (ix2 0 k) ∧ x16 (ix2 1 k) = p.CK (ix2 1 k) ∧ x16 (ix2 2 k) = p.CK (ix2 2 k) ∧ x16 (ix2 3 k) = p.CB (ix1 k))
    (r : Fin 512) (k : Fin 2816) :
    cv (k0_pay22 (hv p b i) x15) (View.ld x16 (Rect.unit ![0,2816] ![8,2816] inb_S8x5632_S8x2816_0_2816)) r k
      = conv p b (i.val * 512 + r.val) ⟨2816 + k.val, by omega⟩ := by
  obtain ⟨a0, a1, a2, a3⟩ := h16 ⟨2816 + k.val, by omega⟩
  have e0 := (pay22_at (hv p b i) x15 (ix2 ⟨(16 + r.val + 544 - 1) % 544, Nat.mod_lt _ (by omega)⟩ k)).trans (hu_eq p b i x15 h15 r.val 0 r.2 (by omega) ⟨2816 + k.val, by omega⟩ _ (by show (16 + r.val + 544 - 1) % 544 = _; omega))
  have e1 := (pay22_at (hv p b i) x15 (ix2 ⟨16 + r.val, by omega⟩ k)).trans (hu_eq p b i x15 h15 r.val 1 r.2 (by omega) ⟨2816 + k.val, by omega⟩ _ (by show 16 + r.val = _; omega))
  have e2 := (pay22_at (hv p b i) x15 (ix2 ⟨(16 + r.val + 544 - 543) % 544, Nat.mod_lt _ (by omega)⟩ k)).trans (hu_eq p b i x15 h15 r.val 2 r.2 (by omega) ⟨2816 + k.val, by omega⟩ _ (by show (16 + r.val + 544 - 543) % 544 = _; omega))
  rw [cv, conv, e0, e1, e2, ld_hi, ld_hi, ld_hi, ld_hi, a0, a1, a2, a3, Nat.zero_add]

/-- The down projection's row `r` of the tile. -/
theorem ffn_eq (x15 : Vec Ideal S1024x5632 .bf16) (h15 : ∀ (c : Fin 1024) (k : Fin 5632), x15 (ix2 c k) = p.WU (ix2 c k))
    (x16 : Vec Ideal S8x5632 .f32) (h16 : ∀ k : Fin 5632, x16 (ix2 0 k) = p.CK (ix2 0 k) ∧ x16 (ix2 1 k) = p.CK (ix2 1 k) ∧ x16 (ix2 2 k) = p.CK (ix2 2 k) ∧ x16 (ix2 3 k) = p.CB (ix1 k))
    (x17 : Vec Ideal S2816x1024 .bf16) (h17 : ∀ (k : Fin 2816) (c : Fin 1024), x17 (ix2 k c) = p.WD (ix2 k c)) (r : Fin 512) (c : Fin 1024) :
    k0_pay26 (k0_pay21 (hv p b i) x15) (k0_pay22 (hv p b i) x15) (k0_pay23 (View.ld x16 (Rect.unit ![0,0] ![8,2816] inb_S8x5632_S8x2816_0_0)))
      (k0_pay24 (hv p b i) x15) (k0_pay25 (hv p b i) x15) (View.ld x16 (Rect.unit ![0,2816] ![8,2816] inb_S8x5632_S8x2816_0_2816)) x17 (ix2 r c)
      = ∑ k, act p b (i.val * 512 + r.val) k * p.WD (ix2 k c) := by
  refine (pay26_at _ _ _ _ _ _ _ _).trans (Finset.sum_congr rfl fun k _ => ?_)
  have e := cg_eq p b i x15 h15 x16 h16 r k
  have e' := cv_eq p b i x15 h15 x16 h16 r k
  rw [act, ← h17 k c, ← e, ← e', zero_sub]; rfl

theorem pay1_at (v41 v190 : FVec Ideal S512x1024 .f32) (v191 : Vec Ideal S1x1x1024 .f32) (j : S1x512x1024.Idx) :
    k0_pay1 v41 v190 v191 j = v41 (ix2 (j 1) (j 2)) + v191 (ix3 0 0 (j 2)) * v190 (ix2 (j 1) (j 2)) := by
  pointwise [k0_pay1]

/-- The tile the body stores, from the blocks it reads and the two staged arrays. -/
theorem body_at (OM H : Vec Ideal S544x1024 .bf16) (hOM : OM = omv p b i) (hH : H = hv p b i)
    (x1 : Vec Ideal S1x512x1024 .f32) (x9 : Vec Ideal S1024x1024 .bf16) (x10 x14 : Vec Ideal S1x1x1024 .f32)
    (x15 : Vec Ideal S1024x5632 .bf16) (x16 : Vec Ideal S8x5632 .f32) (x17 : Vec Ideal S2816x1024 .bf16)
    (g1 : ∀ (r : Fin 512) (c : Fin 1024) (q : Fin 544), q.val = 16 + r.val → x1 (ix3 0 r c) = p.X (ix3 b (row i q) c))
    (h9 : ∀ k c : Fin 1024, x9 (ix2 k c) = p.W (ix2 k c)) (h10 : ∀ c : Fin 1024, x10 (ix3 0 0 c) = md p b 2048 (by omega) c)
    (h14 : ∀ c : Fin 1024, x14 (ix3 0 0 c) = md p b 5120 (by omega) c)
    (h15 : ∀ (c : Fin 1024) (k : Fin 5632), x15 (ix2 c k) = p.WU (ix2 c k))
    (h16 : ∀ k : Fin 5632, x16 (ix2 0 k) = p.CK (ix2 0 k) ∧ x16 (ix2 1 k) = p.CK (ix2 1 k) ∧ x16 (ix2 2 k) = p.CK (ix2 2 k) ∧ x16 (ix2 3 k) = p.CB (ix1 k))
    (h17 : ∀ (k : Fin 2816) (c : Fin 1024), x17 (ix2 k c) = p.WD (ix2 k c))
    (y : S1x512x1024.Idx) (r : Fin 4096) (hr : r.val = i.val * 512 + (y 1).val) :
    k0_pay1 (k0_pay9 x10 OM x9 x1) (k0_pay26 (k0_pay21 H x15) (k0_pay22 H x15) (k0_pay23 (View.ld x16 (Rect.unit ![0,0] ![8,2816] inb_S8x5632_S8x2816_0_0)))
      (k0_pay24 H x15) (k0_pay25 H x15) (View.ld x16 (Rect.unit ![0,2816] ![8,2816] inb_S8x5632_S8x2816_0_2816)) x17) x14 y
      = out p b r (y 2) := by
  subst hOM hH
  have hy : (y 1).val < 512 := (y 1).2
  have hq : row i ⟨16 + (y 1).val, by omega⟩ = r := by
    have := row_mid i ⟨16 + (y 1).val, by omega⟩ (by show ¬ 16 + (y 1).val < 16; omega) (by show 16 + (y 1).val < 528; omega)
    refine Fin.ext ?_
    dsimp only at this
    omega
  refine (pay1_at _ _ _ _).trans (congrArg₂ (· + ·) ?_ (congrArg₂ (· * ·) (h14 (y 2)) ((ffn_eq p b i x15 h15 x16 h16 x17 h17 (y 1) (y 2)).trans (by rw [hr]))))
  refine (pay9_at _ _ _ _ _).trans ?_
  refine (congrArg₂ (· + ·) (g1 (y 1) (y 2) ⟨16 + (y 1).val, by omega⟩ rfl) (pay8_eq p b i x10 x9 h9 h10 ⟨16 + (y 1).val, by omega⟩ (y 2))).trans ?_
  rw [hq]; rfl

end Cert.Kernel2Ideal.Hand
end
-- ==== Proof.K2Windows.lean ====
module

public import proofs.«01_k».proof.Proof.Gen.Kernel2Ideal.Value
public import proofs.«01_k».proof.Proof.Math
public import Idealize.ShloMosaic.Lib.Pipeline.ValueKit
@[expose] public section

set_option maxRecDepth 16384

/-
  Which elements of the arguments the blocks of the kernel's windows hold at grid point `t`: tile `t % 8` of batch entry
  `t / 8`.
-/
noncomputable section
open Idealize.ShloMosaic Idealize.ShloMosaic.TcCoe Idealize.SL.Sem
open Idealize.ShloMosaic.StableHlo
namespace Cert.Kernel2Ideal.Hand
open Cert.Kernel2Ideal Cert.Kernel2Ideal.Gen
variable (m : (ℓ : Loc nD τ sig) → Buf (Elt Ideal) ℓ)

/-! ## The taps -/

/-- The convolution's taps and bias as the kernel holds them: three rows of taps, the bias, four rows of zeros. -/
def CW (A : FVec Ideal S3x5632 .f32) (B : FVec Ideal S5632 .f32) : FVec Ideal S8x5632 .f32 :=
  concatenate S8x5632 0 [⟨S3x5632, A⟩, ⟨S1x5632, broadcastInDim S1x5632 ![1] bcast_S5632_S1x5632_1 B⟩, ⟨S4x5632, broadcastInDim S4x5632 ![] bcast_S_S4x5632 (constant (F := Ideal) S_ .f32 0x00000000#32)⟩] concatenates_S3x5632_S1x5632_S4x5632_S8x5632_d0

theorem cat3_congr {A A' : FVec Ideal S3x5632 .f32} {B B' : FVec Ideal S1x5632 .f32} {C C' : FVec Ideal S4x5632 .f32} (hA : A = A') (hB : B = B') (hC : C = C') :
    concatenate S8x5632 0 [⟨S3x5632, A⟩, ⟨S1x5632, B⟩, ⟨S4x5632, C⟩] concatenates_S3x5632_S1x5632_S4x5632_S8x5632_d0
    = concatenate S8x5632 0 [⟨S3x5632, A'⟩, ⟨S1x5632, B'⟩, ⟨S4x5632, C'⟩] concatenates_S3x5632_S1x5632_S4x5632_S8x5632_d0 := by
  rw [hA, hB, hC]
/-- The first four host operations. -/
abbrev hostHead : List (HloOp τ sig (Elt Ideal)) := hostOps0.take 4
theorem head7 (σ : Valuation τ sig (Elt Ideal)) : StableHlo.after hostHead σ (Proc.devRef .tc main_arg7) = σ (Proc.devRef .tc main_arg7) := by
  simp only [hostHead, hostOps0, List.take]
  after_results
theorem head1 (σ : Valuation τ sig (Elt Ideal)) : StableHlo.after hostHead σ (Proc.devRef .tc main_v1) = broadcastInDim S1x5632 ![1] bcast_S5632_S1x5632_1 (σ (Proc.devRef .tc main_arg8) : FVec Ideal S5632 .f32) := by
  simp only [hostHead, hostOps0, List.take]
  after_results
theorem head2 (σ : Valuation τ sig (Elt Ideal)) : StableHlo.after hostHead σ (Proc.devRef .tc main_v2) = broadcastInDim S4x5632 ![] bcast_S_S4x5632 (constant (F := Ideal) S_ .f32 0x00000000#32) := by
  simp only [hostHead, hostOps0, List.take]
  after_results
theorem v3_eq (c : Dev nD) : V m c main_v3 = CW (m ((c : Thread nD τ).loc main_arg7)) (m ((c : Thread nD τ).loc main_arg8)) := by
  unfold V
  simp only [hostOps0, StableHlo.after_cons, StableHlo.after_nil]
  after_results_simp
  exact cat3_congr (head7 fun b => m (c, b)) (head1 fun b => m (c, b)) (head2 fun b => m (c, b))

theorem CW_w (A : FVec Ideal S3x5632 .f32) (B : FVec Ideal S5632 .f32) (q : Fin 3) (k : Fin 5632) (h : q.val < 8) : CW A B (ix2 ⟨q.val, h⟩ k) = A (ix2 q k) := by pointwise [CW]
theorem CW_b (A : FVec Ideal S3x5632 .f32) (B : FVec Ideal S5632 .f32) (k : Fin 5632) : CW A B (ix2 3 k) = B (ix1 k) := by pointwise [CW]

/-! ## The block each window stands at -/

theorem idx : ∀ t : Fin cfg0.N, win0_0.index t = ![t.val / 8, (t.val % 8) * 32 - 1, 0] ∧ win0_1.index t = ![t.val / 8, t.val % 8, 0]
    ∧ win0_2.index t = ![t.val / 8, min ((t.val % 8 + 1) * 32) 255, 0]
    ∧ win0_3.index t = ![t.val / 8, (t.val % 8) * 32 - 1, 0] ∧ win0_4.index t = ![t.val / 8, t.val % 8, 0]
    ∧ win0_5.index t = ![t.val / 8, min ((t.val % 8 + 1) * 32) 255, 0]
    ∧ win0_6.index t = ![t.val / 8, (t.val % 8) * 32 - 1, 0] ∧ win0_7.index t = ![t.val / 8, t.val % 8, 0]
    ∧ win0_8.index t = ![t.val / 8, min ((t.val % 8 + 1) * 32) 255, 0] ∧ win0_9.index t = ![0, 0] ∧ win0_10.index t = ![t.val / 8, 0, 2] ∧ win0_11.index t = ![0, 0]
    ∧ win0_12.index t = ![t.val / 8, 0, 3] ∧ win0_13.index t = ![t.val / 8, 0, 4] ∧ win0_14.index t = ![t.val / 8, 0, 5]
    ∧ win0_15.index t = ![0, 0] ∧ win0_16.index t = ![0, 0] ∧ win0_17.index t = ![0, 0] ∧ win0_18.index t = ![0, 0]
    ∧ win0_19.index t = ![t.val / 8, t.val % 8, 0] ∧ (grid0.coords t 1).val = t.val % 8 ∧ t.val / 8 < 8 :=
  (by decide +kernel : ∀ t : Fin grid0.N, _)

/-! ## The blocks' elements -/

theorem w0 (c : Dev nD) (t : Fin cfg0.N) (y : S1x16x1024.Idx) (h : t.val / 8 < 8) (h2 : ((t.val % 8) * 32 - 1) * 16 + (y 1).val < 4096) :
    iblk m c 0 t y = m ((c : Thread nD τ).loc main_arg0) (ix3 ⟨t.val / 8, h⟩ ⟨((t.val % 8) * 32 - 1) * 16 + (y 1).val, h2⟩ (y 2)) := by
  blk_ext [iblk, V, idx t]

theorem w1 (c : Dev nD) (t : Fin cfg0.N) (y : S1x512x1024.Idx) (h : t.val / 8 < 8) (h2 : (t.val % 8) * 512 + (y 1).val < 4096) :
    iblk m c 1 t y = m ((c : Thread nD τ).loc main_arg0) (ix3 ⟨t.val / 8, h⟩ ⟨(t.val % 8) * 512 + (y 1).val, h2⟩ (y 2)) := by
  blk_ext [iblk, V, idx t]

theorem w2 (c : Dev nD) (t : Fin cfg0.N) (y : S1x16x1024.Idx) (h : t.val / 8 < 8) (h2 : (min ((t.val % 8 + 1) * 32) 255) * 16 + (y 1).val < 4096) :
    iblk m c 2 t y = m ((c : Thread nD τ).loc main_arg0) (ix3 ⟨t.val / 8, h⟩ ⟨(min ((t.val % 8 + 1) * 32) 255) * 16 + (y 1).val, h2⟩ (y 2)) := by
  blk_ext [iblk, V, idx t]

theorem w3 (c : Dev nD) (t : Fin cfg0.N) (y : S1x16x512.Idx) (h : t.val / 8 < 8) (h2 : ((t.val % 8) * 32 - 1) * 16 + (y 1).val < 4096) :
    iblk m c 3 t y = m ((c : Thread nD τ).loc main_arg1) (ix3 ⟨t.val / 8, h⟩ ⟨((t.val % 8) * 32 - 1) * 16 + (y 1).val, h2⟩ (y 2)) := by
  blk_ext [iblk, V, idx t]

theorem w4 (c : Dev nD) (t : Fin cfg0.N) (y : S1x512x512.Idx) (h : t.val / 8 < 8) (h2 : (t.val % 8) * 512 + (y 1).val < 4096) :
    iblk m c 4 t y = m ((c : Thread nD τ).loc main_arg1) (ix3 ⟨t.val / 8, h⟩ ⟨(t.val % 8) * 512 + (y 1).val, h2⟩ (y 2)) := by
  blk_ext [iblk, V, idx t]

theorem w5 (c : Dev nD) (t : Fin cfg0.N) (y : S1x16x512.Idx) (h : t.val / 8 < 8) (h2 : (min ((t.val % 8 + 1) * 32) 255) * 16 + (y 1).val < 4096) :
    iblk m c 5 t y = m ((c : Thread nD τ).loc main_arg1) (ix3 ⟨t.val / 8, h⟩ ⟨(min ((t.val % 8 + 1) * 32) 255) * 16 + (y 1).val, h2⟩ (y 2)) := by
  blk_ext [iblk, V, idx t]

theorem w6 (c : Dev nD) (t : Fin cfg0.N) (y : S1x16x512.Idx) (h : t.val / 8 < 8) (h2 : ((t.val % 8) * 32 - 1) * 16 + (y 1).val < 4096) :
    iblk m c 6 t y = m ((c : Thread nD τ).loc main_arg2) (ix3 ⟨t.val / 8, h⟩ ⟨((t.val % 8) * 32 - 1) * 16 + (y 1).val, h2⟩ (y 2)) := by
  blk_ext [iblk, V, idx t]

theorem w7 (c : Dev nD) (t : Fin cfg0.N) (y : S1x512x512.Idx) (h : t.val / 8 < 8) (h2 : (t.val % 8) * 512 + (y 1).val < 4096) :
    iblk m c 7 t y = m ((c : Thread nD τ).loc main_arg2) (ix3 ⟨t.val / 8, h⟩ ⟨(t.val % 8) * 512 + (y 1).val, h2⟩ (y 2)) := by
  blk_ext [iblk, V, idx t]

theorem w8 (c : Dev nD) (t : Fin cfg0.N) (y : S1x16x512.Idx) (h : t.val / 8 < 8) (h2 : (min ((t.val % 8 + 1) * 32) 255) * 16 + (y 1).val < 4096) :
    iblk m c 8 t y = m ((c : Thread nD τ).loc main_arg2) (ix3 ⟨t.val / 8, h⟩ ⟨(min ((t.val % 8 + 1) * 32) 255) * 16 + (y 1).val, h2⟩ (y 2)) := by
  blk_ext [iblk, V, idx t]

theorem w10 (c : Dev nD) (t : Fin cfg0.N) (y : S1x1x1024.Idx) (h : t.val / 8 < 16) (h2 : 2048 + (y 2).val < 6144) :
    iblk m c 10 t y = m ((c : Thread nD τ).loc main_arg5) (ix2 ⟨t.val / 8, h⟩ ⟨2048 + (y 2).val, h2⟩) := by
  blk_simp [iblk, idx t]; entry_read; pointwise; blk_ext [idx t]

theorem w12 (c : Dev nD) (t : Fin cfg0.N) (y : S1x1x1024.Idx) (h : t.val / 8 < 16) (h2 : 3072 + (y 2).val < 6144) :
    iblk m c 12 t y = m ((c : Thread nD τ).loc main_arg5) (ix2 ⟨t.val / 8, h⟩ ⟨3072 + (y 2).val, h2⟩) := by
  blk_simp [iblk, idx t]; entry_read; pointwise; blk_ext [idx t]

theorem w13 (c : Dev nD) (t : Fin cfg0.N) (y : S1x1x1024.Idx) (h : t.val / 8 < 16) (h2 : 4096 + (y 2).val < 6144) :
    iblk m c 13 t y = m ((c : Thread nD τ).loc main_arg5) (ix2 ⟨t.val / 8, h⟩ ⟨4096 + (y 2).val, h2⟩) := by
  blk_simp [iblk, idx t]; entry_read; pointwise; blk_ext [idx t]

theorem w14 (c : Dev nD) (t : Fin cfg0.N) (y : S1x1x1024.Idx) (h : t.val / 8 < 16) (h2 : 5120 + (y 2).val < 6144) :
    iblk m c 14 t y = m ((c : Thread nD τ).loc main_arg5) (ix2 ⟨t.val / 8, h⟩ ⟨5120 + (y 2).val, h2⟩) := by
  blk_simp [iblk, idx t]; entry_read; pointwise; blk_ext [idx t]

theorem w9 (c : Dev nD) (t : Fin cfg0.N) (y : S1024x1024.Idx) :
    iblk m c 9 t y = m ((c : Thread nD τ).loc main_arg3) (ix2 (y 0) (y 1)) := by
  blk_simp [iblk, idx t]; entry_read; pointwise; blk_ext [idx t]

theorem w15 (c : Dev nD) (t : Fin cfg0.N) (y : S1024x5632.Idx) :
    iblk m c 15 t y = m ((c : Thread nD τ).loc main_arg6) (ix2 (y 0) (y 1)) := by
  blk_simp [iblk, idx t]; entry_read; pointwise; blk_ext [idx t]

theorem w17 (c : Dev nD) (t : Fin cfg0.N) (y : S2816x1024.Idx) :
    iblk m c 17 t y = m ((c : Thread nD τ).loc main_arg9) (ix2 (y 0) (y 1)) := by
  blk_simp [iblk, idx t]; entry_read; pointwise; blk_ext [idx t]

theorem w11 (c : Dev nD) (t : Fin cfg0.N) (y : S1x1024.Idx) :
    iblk m c 11 t y = m ((c : Thread nD τ).loc main_arg4) (ix1 (y 1)) := by
  blk_simp [iblk, idx t]; entry_read; pointwise; blk_ext [idx t]

theorem emb16 (t : Fin cfg0.N) (y : S8x5632.Idx) : ((cfg0.win 16).blk t).view.emb y = y := by
  have h := (idx t).2.2.2.2.2.2.2.2.2.2.2.2.2.2.2.2.1
  blk_ext [h]
theorem w16 (c : Dev nD) (t : Fin cfg0.N) (y : S8x5632.Idx) :
    iblk m c 16 t y = CW (m ((c : Thread nD τ).loc main_arg7)) (m ((c : Thread nD τ).loc main_arg8)) y :=
  (congrArg (V m c main_v3) (emb16 t y)).trans (congrFun (v3_eq m c) y)

end Cert.Kernel2Ideal.Hand
end
-- ==== Proof.K2Array.lean ====
module

public import proofs.«01_k».proof.Proof.K2Body
public import proofs.«01_k».proof.Proof.K2Windows
@[expose] public section

set_option maxRecDepth 16384

/-
  The kernel's result array: at every element the mathematics' `out`.
-/
noncomputable section
open Idealize.ShloMosaic Idealize.ShloMosaic.TcCoe Idealize.SL.Sem
open Idealize.ShloMosaic.Pipeline (Dat)
namespace Cert.Kernel2Ideal.Hand
open Cert.Kernel2Ideal Cert.Kernel2Ideal.Gen Cert.LayerEnd
variable (m : (ℓ : Loc nD τ sig) → Buf (Elt Ideal) ℓ)

/-- The arguments as device `c` holds them. -/
def args (c : Dev nD) : In where
  X := m ((c : Thread nD τ).loc main_arg0)
  OA := m ((c : Thread nD τ).loc main_arg1)
  OB := m ((c : Thread nD τ).loc main_arg2)
  W := m ((c : Thread nD τ).loc main_arg3)
  G := m ((c : Thread nD τ).loc main_arg4)
  M := m ((c : Thread nD τ).loc main_arg5)
  WU := m ((c : Thread nD τ).loc main_arg6)
  CK := m ((c : Thread nD τ).loc main_arg7)
  CB := m ((c : Thread nD τ).loc main_arg8)
  WD := m ((c : Thread nD τ).loc main_arg9)

/-- The result the mathematics gives of device `c`'s arguments. -/
def res (c : Dev nD) : S8x4096x1024.Idx → EReal :=
  fun j => out (args m c) (j 0) (j 1) (j 2)

/-- The batch entry and the tile of grid point `t`. -/
def bt (t : Fin cfg0.N) : Fin 8 := ⟨t.val / 8, (idx t).2.2.2.2.2.2.2.2.2.2.2.2.2.2.2.2.2.2.2.2.2⟩
def tl (t : Fin cfg0.N) : Fin 8 := ⟨t.val % 8, Nat.mod_lt _ (by omega)⟩

theorem lo_row (t : Fin cfg0.N) (r : Fin 16) (q : Fin 544) (h : q.val = r.val) (hb) : (⟨((t.val % 8) * 32 - 1) * 16 + r.val, hb⟩ : Fin 4096) = row (tl t) q :=
  Fin.ext (by have := r.2; rw [row_lo _ _ (by omega), h]; rfl)
theorem mid_row (t : Fin cfg0.N) (r : Fin 512) (q : Fin 544) (h : q.val = 16 + r.val) (hb) : (⟨(t.val % 8) * 512 + r.val, hb⟩ : Fin 4096) = row (tl t) q :=
  Fin.ext (by
    have := row_mid (tl t) q (by omega) (by have := r.2; omega)
    have e : (tl t).val = t.val % 8 := rfl
    rw [e] at this
    show t.val % 8 * 512 + r.val = _; omega)
theorem hi_row (t : Fin cfg0.N) (r : Fin 16) (q : Fin 544) (h : q.val = 528 + r.val) (hb) : (⟨(min ((t.val % 8 + 1) * 32) 255) * 16 + r.val, hb⟩ : Fin 4096) = row (tl t) q :=
  Fin.ext (by
    have := row_hi (tl t) q (by omega)
    have e : (tl t).val = t.val % 8 := rfl
    rw [e] at this
    show min ((t.val % 8 + 1) * 32) 255 * 16 + r.val = _; omega)

/-! ## The blocks, as the body reads them -/

theorem lo_lt (t : Fin cfg0.N) (r : Fin 16) : ((t.val % 8) * 32 - 1) * 16 + r.val < 4096 := by have := r.2; omega
theorem mid_lt (t : Fin cfg0.N) (r : Fin 512) : (t.val % 8) * 512 + r.val < 4096 := by have := r.2; omega
theorem hi_lt (t : Fin cfg0.N) (r : Fin 16) : (min ((t.val % 8 + 1) * 32) 255) * 16 + r.val < 4096 := by have := r.2; omega

theorem a0 (c : Dev nD) (t : Fin cfg0.N) (r : Fin 16) (k : Fin 1024) (q : Fin 544) (h : q.val = r.val) :
    iblk m c 0 t (ix3 0 r k) = (args m c).X (ix3 (bt t) (row (tl t) q) k) :=
  (w0 m c t (ix3 0 r k) (bt t).2 (lo_lt t r)).trans (congrArg (fun r => m ((c : Thread nD τ).loc main_arg0) (ix3 (bt t) r k)) (lo_row t r q h _))
theorem a1 (c : Dev nD) (t : Fin cfg0.N) (r : Fin 512) (k : Fin 1024) (q : Fin 544) (h : q.val = 16 + r.val) :
    iblk m c 1 t (ix3 0 r k) = (args m c).X (ix3 (bt t) (row (tl t) q) k) :=
  (w1 m c t (ix3 0 r k) (bt t).2 (mid_lt t r)).trans (congrArg (fun r => m ((c : Thread nD τ).loc main_arg0) (ix3 (bt t) r k)) (mid_row t r q h _))
theorem a2 (c : Dev nD) (t : Fin cfg0.N) (r : Fin 16) (k : Fin 1024) (q : Fin 544) (h : q.val = 528 + r.val) :
    iblk m c 2 t (ix3 0 r k) = (args m c).X (ix3 (bt t) (row (tl t) q) k) :=
  (w2 m c t (ix3 0 r k) (bt t).2 (hi_lt t r)).trans (congrArg (fun r => m ((c : Thread nD τ).loc main_arg0) (ix3 (bt t) r k)) (hi_row t r q h _))
theorem a3 (c : Dev nD) (t : Fin cfg0.N) (r : Fin 16) (k : Fin 512) (q : Fin 544) (h : q.val = r.val) :
    iblk m c 3 t (ix3 0 r k) = (args m c).OA (ix3 (bt t) (row (tl t) q) k) :=
  (w3 m c t (ix3 0 r k) (bt t).2 (lo_lt t r)).trans (congrArg (fun r => m ((c : Thread nD τ).loc main_arg1) (ix3 (bt t) r k)) (lo_row t r q h _))
theorem a4 (c : Dev nD) (t : Fin cfg0.N) (r : Fin 512) (k : Fin 512) (q : Fin 544) (h : q.val = 16 + r.val) :
    iblk m c 4 t (ix3 0 r k) = (args m c).OA (ix3 (bt t) (row (tl t) q) k) :=
  (w4 m c t (ix3 0 r k) (bt t).2 (mid_lt t r)).trans (congrArg (fun r => m ((c : Thread nD τ).loc main_arg1) (ix3 (bt t) r k)) (mid_row t r q h _))
theorem a5 (c : Dev nD) (t : Fin cfg0.N) (r : Fin 16) (k : Fin 512) (q : Fin 544) (h : q.val = 528 + r.val) :
    iblk m c 5 t (ix3 0 r k) = (args m c).OA (ix3 (bt t) (row (tl t) q) k) :=
  (w5 m c t (ix3 0 r k) (bt t).2 (hi_lt t r)).trans (congrArg (fun r => m ((c : Thread nD τ).loc main_arg1) (ix3 (bt t) r k)) (hi_row t r q h _))
theorem a6 (c : Dev nD) (t : Fin cfg0.N) (r : Fin 16) (k : Fin 512) (q : Fin 544) (h : q.val = r.val) :
    iblk m c 6 t (ix3 0 r k) = (args m c).OB (ix3 (bt t) (row (tl t) q) k) :=
  (w6 m c t (ix3 0 r k) (bt t).2 (lo_lt t r)).trans (congrArg (fun r => m ((c : Thread nD τ).loc main_arg2) (ix3 (bt t) r k)) (lo_row t r q h _))
theorem a7 (c : Dev nD) (t : Fin cfg0.N) (r : Fin 512) (k : Fin 512) (q : Fin 544) (h : q.val = 16 + r.val) :
    iblk m c 7 t (ix3 0 r k) = (args m c).OB (ix3 (bt t) (row (tl t) q) k) :=
  (w7 m c t (ix3 0 r k) (bt t).2 (mid_lt t r)).trans (congrArg (fun r => m ((c : Thread nD τ).loc main_arg2) (ix3 (bt t) r k)) (mid_row t r q h _))
theorem a8 (c : Dev nD) (t : Fin cfg0.N) (r : Fin 16) (k : Fin 512) (q : Fin 544) (h : q.val = 528 + r.val) :
    iblk m c 8 t (ix3 0 r k) = (args m c).OB (ix3 (bt t) (row (tl t) q) k) :=
  (w8 m c t (ix3 0 r k) (bt t).2 (hi_lt t r)).trans (congrArg (fun r => m ((c : Thread nD τ).loc main_arg2) (ix3 (bt t) r k)) (hi_row t r q h _))
theorem a10 (c : Dev nD) (t : Fin cfg0.N) (k : Fin 1024) : iblk m c 10 t (ix3 0 0 k) = md (args m c) (bt t) 2048 (by omega) k :=
  w10 m c t (ix3 0 0 k) (by have := (bt t).2; show t.val / 8 < 16; exact Nat.lt_of_lt_of_le this (by omega)) (by have := k.2; show 2048 + k.val < 6144; omega)
theorem a12 (c : Dev nD) (t : Fin cfg0.N) (k : Fin 1024) : iblk m c 12 t (ix3 0 0 k) = md (args m c) (bt t) 3072 (by omega) k :=
  w12 m c t (ix3 0 0 k) (by have := (bt t).2; show t.val / 8 < 16; exact Nat.lt_of_lt_of_le this (by omega)) (by have := k.2; show 3072 + k.val < 6144; omega)
theorem a13 (c : Dev nD) (t : Fin cfg0.N) (k : Fin 1024) : iblk m c 13 t (ix3 0 0 k) = md (args m c) (bt t) 4096 (by omega) k :=
  w13 m c t (ix3 0 0 k) (by have := (bt t).2; show t.val / 8 < 16; exact Nat.lt_of_lt_of_le this (by omega)) (by have := k.2; show 4096 + k.val < 6144; omega)
theorem a14 (c : Dev nD) (t : Fin cfg0.N) (k : Fin 1024) : iblk m c 14 t (ix3 0 0 k) = md (args m c) (bt t) 5120 (by omega) k :=
  w14 m c t (ix3 0 0 k) (by have := (bt t).2; show t.val / 8 < 16; exact Nat.lt_of_lt_of_le this (by omega)) (by have := k.2; show 5120 + k.val < 6144; omega)
theorem a16 (c : Dev nD) (t : Fin cfg0.N) (k : Fin 5632) : iblk m c 16 t (ix2 0 k) = (args m c).CK (ix2 0 k) ∧ iblk m c 16 t (ix2 1 k) = (args m c).CK (ix2 1 k)
    ∧ iblk m c 16 t (ix2 2 k) = (args m c).CK (ix2 2 k) ∧ iblk m c 16 t (ix2 3 k) = (args m c).CB (ix1 k) :=
  ⟨(w16 m c t _).trans (CW_w _ _ 0 k (by decide)), (w16 m c t _).trans (CW_w _ _ 1 k (by decide)), (w16 m c t _).trans (CW_w _ _ 2 k (by decide)), (w16 m c t _).trans (CW_b _ _ k)⟩

/-- The result array of the run. -/
theorem array_eq (c : Dev nD) : (dats m 0 c).arrAt 19 cfg0.N = res m c := by
  refine (dats m 0 c).arrAt_eq_of_covers 19 _ (by decide +kernel) fun t _ y => ?_
  have e : ((cfg0.win 19).blk t).view.emb y = ix3 (bt t) ⟨(t.val % 8) * 512 + (y 1).val, by have : (y 1).val < 512 := (y 1).2; omega⟩ (y 2) := by
    have h := (idx t).2.2.2.2.2.2.2.2.2.2.2.2.2.2.2.2.2.2.2.1
    blk_ext [h, bt]
  have n8 : t.val % 8 < 8 := Nat.mod_lt _ (by omega)
  have b8 := (bt t).2
  refine Eq.trans ?_ (congrArg (res m c) e.symm)
  rw [after0_19]
  unfold outsAt0
  frame_out
  have om := om_at (args m c) (bt t) (tl t) _ _ _ _ _ _ (a3 m c t) (a4 m c t) (a5 m c t) (a6 m c t) (a7 m c t) (a8 m c t)
  exact body_at (args m c) (bt t) (tl t) _ _ om
    (h_at (args m c) (bt t) (tl t) _ (idx t).2.2.2.2.2.2.2.2.2.2.2.2.2.2.2.2.2.2.2.2.1 _ om _ _ _ _ _ _ _ _ (a0 m c t) (a1 m c t) (a2 m c t)
      (fun k j => w9 m c t (ix2 k j)) (a10 m c t) (fun k => w11 m c t (ix2 0 k)) (a12 m c t) (a13 m c t))
    _ _ _ _ _ _ _ (a1 m c t) (fun k j => w9 m c t (ix2 k j)) (a10 m c t) (a14 m c t) (fun k j => w15 m c t (ix2 k j)) (a16 m c t)
    (fun k j => w17 m c t (ix2 k j)) y _ rfl

end Cert.Kernel2Ideal.Hand
end
-- ==== Proof.Claims2.lean ====
module

public import proofs.«01_k».proof.Defs
public import proofs.«01_k».proof.Proof.K2Array
public import proofs.«01_k».proof.Proof.RefValue
public import proofs.«01_k».proof.Proof.Gen.Reference2Ideal.Run
@[expose] public section

set_option maxRecDepth 16384

/-
  The algebraic claim about the whole call without a last norm, and its reference's frame.
-/
noncomputable section
open Idealize.ShloMosaic Idealize.ShloMosaic.TcCoe Idealize.SL.Sem
open Idealize.ShloMosaic.StableHlo
namespace Cert.Proof.Plain
open Cert.LayerEnd

variable (m : (ℓ : Loc Cert.Reference2Ideal.nD Cert.Reference2Ideal.τ Cert.Reference2Ideal.sig) → Buf (Elt Ideal) ℓ)

/-- The reference's arguments as device `c` holds them. -/
def rargs (c : Dev Cert.Reference2Ideal.nD) : In where
  X := m ((c : Thread Cert.Reference2Ideal.nD Cert.Reference2Ideal.τ).loc Cert.Reference2Ideal.main_arg0)
  OA := m ((c : Thread Cert.Reference2Ideal.nD Cert.Reference2Ideal.τ).loc Cert.Reference2Ideal.main_arg1)
  OB := m ((c : Thread Cert.Reference2Ideal.nD Cert.Reference2Ideal.τ).loc Cert.Reference2Ideal.main_arg2)
  W := m ((c : Thread Cert.Reference2Ideal.nD Cert.Reference2Ideal.τ).loc Cert.Reference2Ideal.main_arg3)
  G := m ((c : Thread Cert.Reference2Ideal.nD Cert.Reference2Ideal.τ).loc Cert.Reference2Ideal.main_arg4)
  M := m ((c : Thread Cert.Reference2Ideal.nD Cert.Reference2Ideal.τ).loc Cert.Reference2Ideal.main_arg5)
  WU := m ((c : Thread Cert.Reference2Ideal.nD Cert.Reference2Ideal.τ).loc Cert.Reference2Ideal.main_arg6)
  CK := m ((c : Thread Cert.Reference2Ideal.nD Cert.Reference2Ideal.τ).loc Cert.Reference2Ideal.main_arg7)
  CB := m ((c : Thread Cert.Reference2Ideal.nD Cert.Reference2Ideal.τ).loc Cert.Reference2Ideal.main_arg8)
  WD := m ((c : Thread Cert.Reference2Ideal.nD Cert.Reference2Ideal.τ).loc Cert.Reference2Ideal.main_arg9)

/-- The reference runs to its end and leaves its arguments and the counters as they were. -/
theorem frame_ref : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The reference's result, as the run composes it, is the mathematics of its arguments. -/
theorem ref_eq (c : Dev Cert.Reference2Ideal.nD) (v) (hv : v = Cert.ReferenceIdeal.Hand.r71 (rargs m c)) :
    v = fun j : (⟨3, ![8, 4096, 1024]⟩ : Shape).Idx => out (rargs m c) (j 0) (j 1) (j 2) :=
  hv.trans (funext fun j => Cert.ReferenceIdeal.Hand.r71_at _ j)

/-- The kernel and its reference leave the same array from the same arguments. -/
theorem algebraic : Cert.algebraic_Kernel2Ideal_Reference2Ideal := by
  intro m g m' g' _ hagree
  have ea (c : Dev Cert.Kernel2Ideal.nD) : rargs m' c = Cert.Kernel2Ideal.Hand.args m c := by
    obtain ⟨h0, h1, h2, h3, h4, h5, h6, h7, h8, h9⟩ := hagree c
    unfold rargs Cert.Kernel2Ideal.Hand.args
    rw [h0, h1, h2, h3, h4, h5, h6, h7, h8, h9]
  refine ⟨fun c => Cert.Kernel2Ideal.Hand.res m c, ?_, ?_⟩
  · exact (θ_run Cert.Kernel2Ideal.defs _ _).mono (fun _ h c => ⟨(h c).1.trans (Cert.Kernel2Ideal.Hand.array_eq m c), (h c).2⟩)
      (Cert.Kernel2Ideal.Value.run_blocks m g)
  · refine (θ_run Cert.Reference2Ideal.defs _ _).mono (fun _ h c => ⟨(h c).1.trans ?_, (h c).2⟩) (Cert.Reference2Ideal.Value.run (F := Ideal) m' g')
    refine (ref_eq m' c _ rfl).trans ?_
    rw [ea c]; rfl

end Cert.Proof.Plain
end
-- ==== Proof.lean ====
module

public import proofs.«01_k».proof.Defs
public import proofs.«01_k».proof.Proof.Gen.Kernel.Frame
public import proofs.«01_k».proof.Proof.Gen.Kernel2.Frame
public import proofs.«01_k».proof.Proof.Claims
public import proofs.«01_k».proof.Proof.Claims2

/-
  The proof of `Cert.Claim`: the frames of the two kernels, their idealizations and the two references, and for each kernel
  that its idealization is its own program and computes its reference's array.
-/
@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  fun m ρ _ => Cert.Kernel.Gen.frame m ρ, fun m ρ _ => Cert.KernelIdeal.Gen.frame m ρ, Normed.frame_ref,
  fun m ρ _ => Cert.Kernel2.Gen.frame m ρ, fun m ρ _ => Cert.Kernel2Ideal.Gen.frame m ρ, Plain.frame_ref,
  trivial, Normed.algebraic, trivial, Plain.algebraic⟩

end Cert.Proof

end
